-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![768, 512]⟩ ⟨2, ![768, 2048]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![768, 512]⟩ ⟨2, ![768, 2048]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 768]⟩ ⟨2, ![2048, 768]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S2x256x768 : Shape := ⟨3, ![2, 256, 768]⟩
abbrev S768x512 : Shape := ⟨2, ![768, 512]⟩
abbrev S512x768 : Shape := ⟨2, ![512, 768]⟩
abbrev S_ : Shape := ⟨0, ![]⟩

class Facts : Prop where
  bcast_S_S2x256x768 : S_.BroadcastsInDim S2x256x768 (![] : Fin 0 → Fin S2x256x768.rank)
  bcast_S_S768x512 : S_.BroadcastsInDim S768x512 (![] : Fin 0 → Fin S768x512.rank)

variable [Facts]

def fn {F : FTy → Type} [FloatOps F] (main_arg0 : FVec F S2x256x768 .f32) (main_arg1 : FVec F S768x512 .f32) (main_arg2 : FVec F S768x512 .f32) (main_arg3 : FVec F S768x512 .f32) (main_arg4 : FVec F S512x768 .f32) : IVec S2x256x768 1 × IVec S768x512 1 × IVec S768x512 1 :=
  let main_v0 : FVec F S2x256x768 .f32 := Host.absf main_arg0
  let main_cst : FVec F S_ .f32 := constant S_ .f32 0x7F800000#32
  let main_v1 : FVec F S2x256x768 .f32 := broadcastInDim S2x256x768 ![] bcast_S_S2x256x768 main_cst
  let main_v2 : IVec S2x256x768 1 := cmpf .olt main_v0 main_v1
  let main_v3 : FVec F S768x512 .f32 := Host.absf main_arg1
  let main_cst_0 : FVec F S_ .f32 := constant S_ .f32 0x7F800000#32
  let main_v4 : FVec F S768x512 .f32 := broadcastInDim S768x512 ![] bcast_S_S768x512 main_cst_0
  let main_v5 : IVec S768x512 1 := cmpf .olt main_v3 main_v4
  let main_v6 : FVec F S768x512 .f32 := Host.absf main_arg2
  let main_cst_1 : FVec F S_ .f32 := constant S_ .f32 0x7F800000#32
  let main_v7 : FVec F S768x512 .f32 := broadcastInDim S768x512 ![] bcast_S_S768x512 main_cst_1
  let main_v8 : IVec S768x512 1 := cmpf .olt main_v6 main_v7
  (main_v2, main_v5, main_v8)
-- ==== Pre_scores_finite_ReferenceIdeal.lean ====
abbrev S2x256x768 : Shape := ⟨3, ![2, 256, 768]⟩
abbrev S768x2048 : Shape := ⟨2, ![768, 2048]⟩
abbrev S2048x768 : Shape := ⟨2, ![2048, 768]⟩
abbrev S_ : Shape := ⟨0, ![]⟩

class Facts : Prop where
  bcast_S_S2x256x768 : S_.BroadcastsInDim S2x256x768 (![] : Fin 0 → Fin S2x256x768.rank)
  bcast_S_S768x2048 : S_.BroadcastsInDim S768x2048 (![] : Fin 0 → Fin S768x2048.rank)

variable [Facts]

def fn {F : FTy → Type} [FloatOps F] (main_arg0 : FVec F S2x256x768 .f32) (main_arg1 : FVec F S768x2048 .f32) (main_arg2 : FVec F S768x2048 .f32) (main_arg3 : FVec F S768x2048 .f32) (main_arg4 : FVec F S2048x768 .f32) : IVec S2x256x768 1 × IVec S768x2048 1 × IVec S768x2048 1 :=
  let main_v0 : FVec F S2x256x768 .f32 := Host.absf main_arg0
  let main_cst : FVec F S_ .f32 := constant S_ .f32 0x7F800000#32
  let main_v1 : FVec F S2x256x768 .f32 := broadcastInDim S2x256x768 ![] bcast_S_S2x256x768 main_cst
  let main_v2 : IVec S2x256x768 1 := cmpf .olt main_v0 main_v1
  let main_v3 : FVec F S768x2048 .f32 := Host.absf main_arg1
  let main_cst_0 : FVec F S_ .f32 := constant S_ .f32 0x7F800000#32
  let main_v4 : FVec F S768x2048 .f32 := broadcastInDim S768x2048 ![] bcast_S_S768x2048 main_cst_0
  let main_v5 : IVec S768x2048 1 := cmpf .olt main_v3 main_v4
  let main_v6 : FVec F S768x2048 .f32 := Host.absf main_arg2
  let main_cst_1 : FVec F S_ .f32 := constant S_ .f32 0x7F800000#32
  let main_v7 : FVec F S768x2048 .f32 := broadcastInDim S768x2048 ![] bcast_S_S768x2048 main_cst_1
  let main_v8 : IVec S768x2048 1 := cmpf .olt main_v6 main_v7
  (main_v2, main_v5, main_v8)
-- ==== Kernel.lean ====
abbrev S2x256x768 : Shape := ⟨3, ![2, 256, 768]⟩
abbrev S768x512 : Shape := ⟨2, ![768, 512]⟩
abbrev S512x768 : Shape := ⟨2, ![512, 768]⟩
abbrev S512x512 : Shape := ⟨2, ![512, 512]⟩
abbrev S4x512x768 : Shape := ⟨3, ![4, 512, 768]⟩
abbrev S3 : Shape := ⟨1, ![3]⟩
abbrev S_ : Shape := ⟨0, ![]⟩
abbrev S256x64 : Shape := ⟨2, ![256, 64]⟩
abbrev S256x256 : Shape := ⟨2, ![256, 256]⟩
abbrev S256 : Shape := ⟨1, ![256]⟩
abbrev S256x1 : Shape := ⟨2, ![256, 1]⟩
abbrev S1x512x768 : Shape := ⟨3, ![1, 512, 768]⟩
abbrev S1 : Shape := ⟨1, ![1]⟩

abbrev nBuf : Space → Nat
  | .hbm => 6
  | .vmem => 8
  | .smem => 0
  | _ => 0

abbrev bufTy : (tb : Table) → Fin (tcTables nBuf tb) → BufTy
  | .hbm, ⟨0, _⟩ => ⟨S2x256x768, .f32⟩
  | .hbm, ⟨1, _⟩ => ⟨S768x512, .f32⟩
  | .hbm, ⟨2, _⟩ => ⟨S768x512, .f32⟩
  | .hbm, ⟨3, _⟩ => ⟨S768x512, .f32⟩
  | .hbm, ⟨4, _⟩ => ⟨S512x768, .f32⟩
  | .hbm, ⟨5, _⟩ => ⟨S2x256x768, .f32⟩
  | .local _ .vmem, ⟨0, _⟩ => ⟨S2x256x768, .f32⟩
  | .local _ .vmem, ⟨1, _⟩ => ⟨S768x512, .f32⟩
  | .local _ .vmem, ⟨2, _⟩ => ⟨S768x512, .f32⟩
  | .local _ .vmem, ⟨3, _⟩ => ⟨S768x512, .f32⟩
  | .local _ .vmem, ⟨4, _⟩ => ⟨S512x768, .f32⟩
  | .local _ .vmem, ⟨5, _⟩ => ⟨S2x256x768, .f32⟩
  | .local _ .vmem, ⟨6, _⟩ => ⟨S512x512, .f32⟩
  | .local _ .vmem, ⟨7, _⟩ => ⟨S4x512x768, .f32⟩
  | _, _ => ⟨S2x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_dev3 (d0 : Dev nD) : Nat :=
  let c0_i32_150 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_149 : BitVec 32 := 1#32
  let v355 : BitVec 32 := Scalar.muli v24 c1_i32_149
  let v356 : BitVec 32 := Scalar.addi c0_i32_150 v355
  v356.toNat
def k0_dev4 (d0 : Dev nD) : Nat :=
  let c0_i32_181 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_180 : BitVec 32 := 1#32
  let v382 : BitVec 32 := Scalar.muli v24 c1_i32_180
  let v383 : BitVec 32 := Scalar.addi c0_i32_181 v382
  v383.toNat
def k0_dev5 (d0 : Dev nD) : Nat :=
  let c0_i32_211 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_210 : BitVec 32 := 1#32
  let v409 : BitVec 32 := Scalar.muli v24 c1_i32_210
  let v410 : BitVec 32 := Scalar.addi c0_i32_211 v409
  v410.toNat
abbrev stage0_0 : Fin 1 → Memref sig .tc .vmem S2x256x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x768 : Shape := ⟨3, ![2, 256, 768]⟩
abbrev S768x2048 : Shape := ⟨2, ![768, 2048]⟩
abbrev S2048x768 : Shape := ⟨2, ![2048, 768]⟩
abbrev S2x256x2048 : Shape := ⟨3, ![2, 256, 2048]⟩
abbrev S2x256x32x64 : Shape := ⟨4, ![2, 256, 32, 64]⟩
abbrev S_ : Shape := ⟨0, ![]⟩
abbrev S2x32x256x1 : Shape := ⟨4, ![2, 32, 256, 1]⟩
abbrev S2x32x256x256 : Shape := ⟨4, ![2, 32, 256, 256]⟩
abbrev S2x32x256 : Shape := ⟨3, ![2, 32, 256]⟩
abbrev S2x256x32x1 : Shape := ⟨4, ![2, 256, 32, 1]⟩
abbrev S2x32x64x256 : Shape := ⟨4, ![2, 32, 64, 256]⟩

abbrev nBuf : Space → Nat
  | .hbm => 46
  | .vmem => 0
  | .smem => 0
  | _ => 0

abbrev bufTy : (tb : Table) → Fin (tcTables nBuf tb) → BufTy
  | .hbm, ⟨0, _⟩ => ⟨S2x256x768, .f32⟩
  | .hbm, ⟨1, _⟩ => ⟨S768x2048, .f32⟩
  | .hbm, ⟨2, _⟩ => ⟨S768x2048, .f32⟩
  | .hbm, ⟨3, _⟩ => ⟨S768x2048, .f32⟩
  | .hbm, ⟨4, _⟩ => ⟨S2048x768, .f32⟩
  | .hbm, ⟨5, _⟩ => ⟨S2x256x2048, .f32⟩
  | .hbm, ⟨6, _⟩ => ⟨S2x256x32x64, .f32⟩
  | .hbm, ⟨7, _⟩ => ⟨S2x256x2048, .f32⟩
  | .hbm, ⟨8, _⟩ => ⟨S2x256x32x64, .f32⟩
  | .hbm, ⟨9, _⟩ => ⟨S2x256x2048, .f32⟩
  | .hbm, ⟨10, _⟩ => ⟨S2x256x32x64, .f32⟩
  | .hbm, ⟨11, _⟩ => ⟨S_, .f32⟩
  | .hbm, ⟨12, _⟩ => ⟨S2x256x32x64, .f32⟩
  | .hbm, ⟨13, _⟩ => ⟨S_, .f32⟩
  | .hbm, ⟨14, _⟩ => ⟨S2x32x256x1, .f32⟩
  | .hbm, ⟨15, _⟩ => ⟨S_, .f32⟩
  | .hbm, ⟨16, _⟩ => ⟨S2x32x256x1, .f32⟩
  | .hbm, ⟨17, _⟩ => ⟨S2x32x256x256, .f32⟩
  | .hbm, ⟨18, _⟩ => ⟨S_, .f32⟩
  | .hbm, ⟨19, _⟩ => ⟨S2x32x256x256, .f32⟩
  | .hbm, ⟨20, _⟩ => ⟨S2x32x256x256, .f32⟩
  | .hbm, ⟨21, _⟩ => ⟨S_, .f32⟩
  | .hbm, ⟨22, _⟩ => ⟨S2x32x256, .f32⟩
  | .hbm, ⟨23, _⟩ => ⟨S2x32x256x1, .f32⟩
  | .hbm, ⟨24, _⟩ => ⟨S2x32x256x1, .f32⟩
  | .hbm, ⟨25, _⟩ => ⟨S2x32x256x1, .f32⟩
  | .hbm, ⟨26, _⟩ => ⟨S2x32x256x1, .f32⟩
  | .hbm, ⟨27, _⟩ => ⟨S2x32x256x256, .f32⟩
  | .hbm, ⟨28, _⟩ => ⟨S2x32x256x256, .f32⟩
  | .hbm, ⟨29, _⟩ => ⟨S2x32x256x256, .f32⟩
  | .hbm, ⟨30, _⟩ => ⟨S2x32x256x1, .f32⟩
  | .hbm, ⟨31, _⟩ => ⟨S_, .f32⟩
  | .hbm, ⟨32, _⟩ => ⟨S2x32x256, .f32⟩
  | .hbm, ⟨33, _⟩ => ⟨S2x32x256x1, .f32⟩
  | .hbm, ⟨34, _⟩ => ⟨S2x32x256x1, .f32⟩
  | .hbm, ⟨35, _⟩ => ⟨S2x256x32x1, .f32⟩
  | .hbm, ⟨36, _⟩ => ⟨S2x256x32x64, .f32⟩
  | .hbm, ⟨37, _⟩ => ⟨S2x256x32x64, .f32⟩
  | .hbm, ⟨38, _⟩ => ⟨S2x32x64x256, .f32⟩
  | .hbm, ⟨39, _⟩ => ⟨S2x256x32x64, .f32⟩
  | .hbm, ⟨40, _⟩ => ⟨S2x256x32x64, .f32⟩
  | .hbm, ⟨41, _⟩ => ⟨S2x256x32x1, .f32⟩
  | .hbm, ⟨42, _⟩ => ⟨S2x256x32x64, .f32⟩
  | .hbm, ⟨43, _⟩ => ⟨S2x256x32x64, .f32⟩
  | .hbm, ⟨44, _⟩ => ⟨S2x256x2048, .f32⟩
  | .hbm, ⟨45, _⟩ => ⟨S2x256x768, .f32⟩
  | _, _ => ⟨S2x256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Proof.KernelIdeal.Heads.lean ====
/- One device's attention array, from the sixteen blocks its kernel stores.

   The kernel computes `q`, `k`, `v` (each 512×512: two batches of 256 rows, eight heads of 64
   columns) and stores, batch by batch and head by head, one 256×64 block of the attention result.
   `headVal` is what one block computes; `attnVal` is the array whose blocks these are; `Agrees f n`
   says that a buffer holds the first `n` blocks of it; `agrees_store` is one store. -/
module

public import proofs.«01_k».proof.Proof.Gen.KernelIdeal
public import proofs.«01_k».proof.Proof.Gen.KernelIdeal.Skeleton

@[expose] public section

noncomputable section

namespace Cert.KernelIdeal.Run

open Cert.KernelIdeal Cert.KernelIdeal.Gen
open Idealize.ShloMosaic Idealize.SL.Sem

variable {F : FTy → Type} [FloatOps F]

/-! ## What one block computes -/

/-- The scaled scores of the block at offset `o`: `(q_o k_oᵀ) · 0.125`. -/
def headScore (o : Fin 2 → ℕ) (hs : S512x512.Slices o S256x64) (q k : FVec F S512x512 .f32) : FVec F S256x256 .f32 :=
  mulf (matmul dot_S256x64_S256x64_S256x256_1_1_0_0_n_n none (extractStridedSlice S256x64 o q hs)
      (extractStridedSlice S256x64 o k hs) (constant S256x256 .f32 0x00000000#32))
    (broadcast S256x256 (Scalar.ofBits .f32 0x3E000000#32))

/-- A column of 256 numbers repeated along the rows of a 256×256 array. -/
def alongRows (x : FVec F S256 .f32) : FVec F S256x256 .f32 :=
  broadcastTo S256x256 (shapeCast S256x1 x shapeCasts_S256_S256x1) broadcasts_S256x1_S256x256

/-- The exponentials of a score array, each row less its maximum. -/
def expRows (s : FVec F S256x256 .f32) : FVec F S256x256 .f32 :=
  exp (subf s (alongRows (multiReduction .maximumf [1] S256 s 0xFF800000#32 reduces_S256x256_S256 (.inl rfl) rfl)))

/-- The softmax weights of a score array. -/
def softRows (s : FVec F S256x256 .f32) : FVec F S256x256 .f32 :=
  divf (expRows s)
    (alongRows (multiReduction .add [1] S256 (expRows s) 0x00000000#32 reduces_S256x256_S256 (.inl rfl) rfl))

/-- The block of the attention result at offset `o`: softmax weights times the block of `v`. -/
def headVal (o : Fin 2 → ℕ) (hs : S512x512.Slices o S256x64) (q k v : FVec F S512x512 .f32) : FVec F S256x64 .f32 :=
  shapeCast S256x64
    (matmul dot_S256x256_S256x64_S256x64_1_0_0_1_n_n none (softRows (headScore o hs q k))
      (extractStridedSlice S256x64 o v hs) (constant S256x64 .f32 0x00000000#32)) shapeCasts_S256x64_S256x64

/-! ## The array -/

/-- The offset of the block that holds index `i`, -/
def blkOff (i : S512x512.Idx) : Fin 2 → ℕ := ![256 * ((i 0).val / 256), 64 * ((i 1).val / 64)]

theorem blk_row (i : S512x512.Idx) : (i 0).val / 256 < 2 := by
  have h : (i 0).val < 512 := (i 0).isLt
  omega

theorem blk_col (i : S512x512.Idx) : (i 1).val / 64 < 8 := by
  have h : (i 1).val < 512 := (i 1).isLt
  omega

/-- which lies inside the array, -/
theorem blkOff_slices (i : S512x512.Idx) : S512x512.Slices (blkOff i) S256x64 := by
  have h0 := blk_row i
  have h1 := blk_col i
  refine ⟨rfl, fun a => ?_⟩
  revert a
  rw [show (∀ a : Fin S512x512.rank, blkOff i a + S256x64.size (a.cast _) ≤ S512x512.size a)
    ↔ ∀ a : Fin 2, blkOff i a + S256x64.size a ≤ S512x512.size a from Iff.rfl, Fin.forall_fin_two]
  refine ⟨?_, ?_⟩
  · show 256 * ((i 0).val / 256) + 256 ≤ 512; omega
  · show 64 * ((i 1).val / 64) + 64 ≤ 512; omega

/-- and the index within the block. -/
def blkIdx (i : S512x512.Idx) : S256x64.Idx :=
  Fin.cons (⟨(i 0).val % 256, Nat.mod_lt _ (by decide)⟩ : Fin 256)
    (Fin.cons (⟨(i 1).val % 64, Nat.mod_lt _ (by decide)⟩ : Fin 64) finZeroElim)

/-- One device's attention result, from its `q`, `k` and `v`. -/
def attnVal (q k v : FVec F S512x512 .f32) : FVec F S512x512 .f32 :=
  fun i => headVal (blkOff i) (blkOff_slices i) q k v (blkIdx i)

/-- The array `f` holds the first `n` blocks of the attention result, counted along the heads, then the batches. -/
def Agrees (q k v : FVec F S512x512 .f32) (n : ℕ) (f : FVec F S512x512 .f32) : Prop :=
  ∀ i : S512x512.Idx, (i 0).val / 256 * 8 + (i 1).val / 64 < n → f i = attnVal q k v i

theorem agrees_zero (q k v f : FVec F S512x512 .f32) : Agrees q k v 0 f := fun i h => absurd h (Nat.not_lt_zero _)

/-- All sixteen blocks are the array. -/
theorem agrees_all {q k v f : FVec F S512x512 .f32} (h : Agrees q k v 16 f) : f = attnVal q k v :=
  funext fun i => h i (by have := blk_row i; have := blk_col i; omega)

/-- Storing block `(b, h)` over an array that holds the blocks before it leaves one that holds it too. -/
theorem agrees_store {q k v f w : FVec F S512x512 .f32} (b h : ℕ) (hh : h < 8) (o : Fin 2 → ℕ)
    (ho : o = ![256 * b, 64 * h]) (hs : S512x512.Slices o S256x64)
    (hin : ∀ a, o a + S256x64.size a ≤ S512x512.size a)
    (hf : Agrees q k v (b * 8 + h) f)
    (hw : ∀ j, w ((Rect.unit (s := S512x512) o S256x64.size hin).emb j) = headVal o hs q k v j)
    (hw' : ∀ i, i ∉ (Rect.unit (s := S512x512) o S256x64.size hin).set → w i = f i) :
    Agrees q k v (b * 8 + h + 1) w := by
  intro i hi
  by_cases hm : i ∈ (Rect.unit (s := S512x512) o S256x64.size hin).set
  · have hm2 := Rect.mem_set_unit.mp hm
    have h0 : o 0 ≤ (i 0).val ∧ (i 0).val < o 0 + 256 := hm2 0
    have h1 : o 1 ≤ (i 1).val ∧ (i 1).val < o 1 + 64 := hm2 1
    have o0 : o 0 = 256 * b := by rw [ho]; rfl
    have o1 : o 1 = 64 * h := by rw [ho]; rfl
    have e0 : (i 0).val / 256 = b := by omega
    have e1 : (i 1).val / 64 = h := by omega
    have hoff : blkOff i = o := by unfold blkOff; rw [e0, e1, ho]
    have hidx : (Rect.unit (s := S512x512) o S256x64.size hin).emb (blkIdx i) = i := by
      refine funext fun a => Fin.ext ?_
      rw [Rect.emb_apply, Rect.stride_unit, Nat.one_mul, Rect.off_unit]
      revert a
      refine Fin.forall_fin_two.mpr ⟨?_, ?_⟩
      · show o 0 + (i 0).val % 256 = (i 0).val; omega
      · show o 1 + (i 1).val % 64 = (i 1).val; omega
    have hv : attnVal q k v i = headVal o hs q k v (blkIdx i) := by
      unfold attnVal
      have key : ∀ (o' : Fin 2 → ℕ) (hs' : S512x512.Slices o' S256x64), o' = o →
          headVal o' hs' q k v (blkIdx i) = headVal o hs q k v (blkIdx i) := by
        intro o' hs' e; subst e; rfl
      exact key _ _ hoff
    rw [hv, ← hw (blkIdx i), hidx]
  · rw [hw' i hm]
    refine hf i ?_
    have hne : (i 0).val / 256 * 8 + (i 1).val / 64 ≠ b * 8 + h := by
      intro e
      apply hm
      have c1 := blk_col i
      have e1 : (i 1).val / 64 = h := by omega
      have e0 : (i 0).val / 256 = b := by omega
      rw [Rect.mem_set_unit]
      refine Fin.forall_fin_two.mpr ⟨?_, ?_⟩
      · show o 0 ≤ (i 0).val ∧ (i 0).val < o 0 + 256
        rw [ho]
        show 256 * b ≤ (i 0).val ∧ (i 0).val < 256 * b + 256
        omega
      · show o 1 ≤ (i 1).val ∧ (i 1).val < o 1 + 64
        rw [ho]
        show 64 * h ≤ (i 1).val ∧ (i 1).val < 64 * h + 64
        omega
    omega

end Cert.KernelIdeal.Run

end
-- ==== Proof.KernelIdeal.Contents.lean ====
/- What the buffers of the four devices hold.

   Device `c` multiplies its attention result by its rows of `Wo`: `part c`. The parts then travel
   round the ring, one step per hop, so that slot `s` of device `c`'s communication buffer comes to
   hold the part of the device `s` places before it: `commBuf c`. This one array is the contents of
   every slot at every time it holds something, so a slot's ownership is `slotPts` at it. -/
module

public import proofs.«01_k».proof.Proof.Gen.KernelIdeal.Launch
public import proofs.«01_k».proof.Proof.Gen.KernelIdeal.Points
public import proofs.«01_k».proof.Proof.KernelIdeal.Heads
public import Idealize.ShloMosaic.Lib.Pipeline.Launch
public import Idealize.ShloMosaic.Lib.Pipeline.Kit
public import Idealize.ShloMosaic.Lib.Tactic

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds (duties `Unit`) beside the ring's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The state at launch: any memory, every semaphore at zero, any generator registers. -/
def s₀ : MemSt nD τ sig (Elt F) := ⟨m, fun _ => 0, ρ⟩

/-! ## The ring -/

set_option backward.proofsInPublic true in
/-- The device after `c`, to which `c` sends; -/
def nxt (c : Dev nD) : Dev nD := ⟨(c.val + 1) % 4, Nat.mod_lt _ (by decide)⟩
set_option backward.proofsInPublic true in
/-- the device before `c`, from which `c` receives. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

/-- The device whose part slot `n` of device `c` holds: `n` places before `c`. -/
def back (n : ℕ) (c : Dev nD) : Dev nD := prv^[n] c

theorem back_succ_nxt (n : ℕ) (c : Dev nD) : back (n + 1) (nxt c) = back n c := by
  unfold back; rw [Function.iterate_succ_apply, prv_nxt]

/-- The devices the kernel's two signals and three copies name. -/
theorem dev1_eq (c : Dev nD) : (⟨k0_dev1 c, k0_dev1_lt c⟩ : Dev nD) = prv c := by
  revert c; decide +kernel
theorem dev2_eq (c : Dev nD) : (⟨k0_dev2 c, k0_dev2_lt c⟩ : Dev nD) = nxt c := by
  revert c; decide +kernel
theorem dev3_eq (c : Dev nD) : (⟨k0_dev3 c, k0_dev3_lt c⟩ : Dev nD) = nxt c := by
  revert c; decide +kernel
theorem dev4_eq (c : Dev nD) : (⟨k0_dev4 c, k0_dev4_lt c⟩ : Dev nD) = nxt c := by
  revert c; decide +kernel
theorem dev5_eq (c : Dev nD) : (⟨k0_dev5 c, k0_dev5_lt c⟩ : Dev nD) = nxt c := by
  revert c; decide +kernel

/-- The ring's step as a permutation of the devices. -/
def ring : Dev nD ≃ Dev nD := ⟨nxt, prv, prv_nxt, nxt_prv⟩

/-! ## The arrays -/

/-- Device `c`'s staged operands: `x`, its columns of `Wq`, `Wk`, `Wv`, its rows of `Wo`. -/
def xAt (c : Dev nD) : (cc0_stg0_0 : Ref sig .tc).ty.Contents (Elt F) :=
  (win0_0.blk (0 : Fin 1)).view.read (Elt F) ((s₀ m ρ).mem ((c : Thread nD τ).loc main_arg0))
def wqAt (c : Dev nD) : (cc0_stg1_0 : Ref sig .tc).ty.Contents (Elt F) :=
  (win0_1.blk (0 : Fin 1)).view.read (Elt F) ((s₀ m ρ).mem ((c : Thread nD τ).loc main_arg1))
def wkAt (c : Dev nD) : (cc0_stg2_0 : Ref sig .tc).ty.Contents (Elt F) :=
  (win0_2.blk (0 : Fin 1)).view.read (Elt F) ((s₀ m ρ).mem ((c : Thread nD τ).loc main_arg2))
def wvAt (c : Dev nD) : (cc0_stg3_0 : Ref sig .tc).ty.Contents (Elt F) :=
  (win0_3.blk (0 : Fin 1)).view.read (Elt F) ((s₀ m ρ).mem ((c : Thread nD τ).loc main_arg3))
def woAt (c : Dev nD) : (cc0_stg4_0 : Ref sig .tc).ty.Contents (Elt F) :=
  (win0_4.blk (0 : Fin 1)).view.read (Elt F) ((s₀ m ρ).mem ((c : Thread nD τ).loc main_arg4))

/-- Device `c`'s `q`, `k`, `v`. -/
def qAt (c : Dev nD) : FVec F S512x512 .f32 := k0_pay3 (xAt m ρ c) (wqAt m ρ c)
def kAt (c : Dev nD) : FVec F S512x512 .f32 := k0_pay4 (xAt m ρ c) (wkAt m ρ c)
def vAt (c : Dev nD) : FVec F S512x512 .f32 := k0_pay5 (xAt m ρ c) (wvAt m ρ c)
/-- Its attention result, -/
def attnAt (c : Dev nD) : FVec F S512x512 .f32 := attnVal (qAt m ρ c) (kAt m ρ c) (vAt m ρ c)
/-- its part of the sum: that times its rows of `Wo`, -/
def part (c : Dev nD) : FVec F S1x512x768 .f32 := k0_pay37 (attnAt m ρ c) (woAt m ρ c)

/-- An index of the communication buffer, within its slot. -/
def inSlot (i : S4x512x768.Idx) : S1x512x768.Idx :=
  Fin.cons (⟨0, Nat.one_pos⟩ : Fin 1) (Fin.cons (⟨(i 1).val, (i 1).isLt⟩ : Fin 512)
    (Fin.cons (⟨(i 2).val, (i 2).isLt⟩ : Fin 768) finZeroElim))

/-- and its communication buffer at the end: slot `s` holds the part of the device `s` places before. -/
def commBuf (c : Dev nD) : FVec F S4x512x768 .f32 := fun i => part m ρ (back (i 0).val c) (inSlot i)

/-! ## The slots of the communication buffer -/

abbrev attnM : Memref sig .tc .vmem S512x512 .f32 := Memref.whole cc0_scratch0
abbrev commM : Memref sig .tc .vmem S4x512x768 .f32 := Memref.whole cc0_scratch1

theorem slot_inb (h : Fin 4) : ∀ a, (![h.val, 0, 0] : Fin 3 → ℕ) a + S1x512x768.size a ≤ S4x512x768.size a := by
  revert h; decide

/-- The rectangle of slot `h`; -/
abbrev slotR (h : Fin 4) : Rect S4x512x768 := Rect.unit (s := S4x512x768) ![h.val, 0, 0] S1x512x768.size (slot_inb h)

/-- the slot as the copies name it. -/
abbrev slotM (h : Fin 4) : Memref sig .tc .vmem S512x768 .f32 :=
  (commM.slice (slotR h) (fun _ => rfl)).squeeze S512x768 squeezes_S1x512x768_S512x768

/-- The indices of slot `h`. -/
def slotSet (h : Fin 4) : Finset S4x512x768.Idx := (slotR h).set

theorem mem_slotSet {h : Fin 4} {i : S4x512x768.Idx} : i ∈ slotSet h ↔ (i 0).val = h.val := by
  unfold slotSet
  rw [Rect.mem_set_unit]
  constructor
  · intro hi
    have h0 : h.val ≤ (i 0).val ∧ (i 0).val < h.val + 1 := hi 0
    omega
  · intro e a
    have b1 : (i 1).val < 512 := (i 1).isLt
    have b2 : (i 2).val < 768 := (i 2).isLt
    revert a
    refine Fin.forall_fin_succ.mpr ⟨?_, Fin.forall_fin_two.mpr ⟨?_, ?_⟩⟩
    · show h.val ≤ (i 0).val ∧ (i 0).val < h.val + 1; omega
    · show 0 ≤ (i 1).val ∧ (i 1).val < 0 + 512; omega
    · show 0 ≤ (i 2).val ∧ (i 2).val < 0 + 768; omega

theorem slotM_set (h : Fin 4) : (slotM h).view.set = slotSet h := by
  show ((commM.view.slice (slotR h)).reshape S512x768 _).set = _
  rw [View.set_reshape]
  exact View.set_slice_whole _ _

theorem access_set (h : Fin 4) : (commM.access (slotR h)).set = slotSet h := View.set_slice_whole _ _

/-- Device `c`'s slot `h`, whole, read from the buffer contents `f`. -/
def slotPts (c : Dev nD) (h : Fin 4) (f : Buf (Elt F) ((c : Thread nD τ).loc cc0_scratch1)) : sProp 𝕄 :=
  ((c : Thread nD τ).loc cc0_scratch1) ↦[slotSet h]{fullShare} f

omit [FloatOps F] in
instance slotPts_storable (c : Dev nD) (h : Fin 4) (f) : BI.Storable (upEmb : UEmb _ 𝕄) (slotPts (F := F) c h f) := by
  unfold slotPts; infer_instance

omit [FloatOps F] in
/-- Contents that agree on the slot are the same ownership. -/
theorem slotPts_congr {c : Dev nD} {h : Fin 4} {f g : Buf (Elt F) ((c : Thread nD τ).loc cc0_scratch1)}
    (e : ∀ i : S4x512x768.Idx, (i 0).val = h.val → f i = g i) : slotPts c h f = (slotPts c h g : sProp 𝕄) := by
  unfold slotPts
  exact pointsTo_congr fun i hi => e i (mem_slotSet.mp hi)

omit [FloatOps F] in
/-- The buffer is its four slots. -/
theorem comm_split (c : Dev nD) (f : Buf (Elt F) ((c : Thread nD τ).loc cc0_scratch1)) :
    ((((c : Thread nD τ).loc cc0_scratch1) ↦{fullShare} f) : sProp 𝕄)
      = iprop(slotPts c 0 f ∗ slotPts c 1 f ∗ slotPts c 2 f ∗ slotPts c 3 f) := by
  have hu : (Finset.univ : Finset S4x512x768.Idx) = slotSet 0 ∪ (slotSet 1 ∪ (slotSet 2 ∪ slotSet 3)) := by
    ext i
    have b : (i 0).val < 4 := (i 0).isLt
    simp only [Finset.mem_univ, Finset.mem_union, mem_slotSet, true_iff]
    show (i 0).val = 0 ∨ (i 0).val = 1 ∨ (i 0).val = 2 ∨ (i 0).val = 3
    omega
  have d0 : Disjoint (slotSet 0) (slotSet 1 ∪ (slotSet 2 ∪ slotSet 3)) := Finset.disjoint_left.mpr fun i hi hS => by
    simp only [Finset.mem_union, mem_slotSet] at hi hS; rw [hi] at hS; revert hS; decide
  have d1 : Disjoint (slotSet 1) (slotSet 2 ∪ slotSet 3) := Finset.disjoint_left.mpr fun i hi hS => by
    simp only [Finset.mem_union, mem_slotSet] at hi hS; rw [hi] at hS; revert hS; decide
  have d2 : Disjoint (slotSet 2) (slotSet 3) := Finset.disjoint_left.mpr fun i hi hS => by
    simp only [mem_slotSet] at hi hS; rw [hi] at hS; revert hS; decide
  unfold slotPts
  show (((c : Thread nD τ).loc cc0_scratch1) ↦[(Finset.univ : Finset S4x512x768.Idx)]{fullShare} f : sProp 𝕄) = _
  rw [hu, BI.Entails.antisymm (pointsTo_union d0).1 (pointsTo_union d0).2,
    BI.Entails.antisymm (pointsTo_union d1).1 (pointsTo_union d1).2,
    BI.Entails.antisymm (pointsTo_union d2).1 (pointsTo_union d2).2]

end Cert.KernelIdeal.Run

end
-- ==== Proof.KernelIdeal.Moves.lean ====
/- What the stores, the copies and the loads of the kernel do to the arrays of `Contents`. -/
module

public import proofs.«01_k».proof.Proof.KernelIdeal.Contents

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

/-! ## The attention scratch -/

/-- The rectangle of a 256×64 block. -/
abbrev blkR (o : Fin 2 → ℕ) (hin : ∀ a, o a + S256x64.size a ≤ S512x512.size a) : Rect S512x512 :=
  Rect.unit (s := S512x512) o S256x64.size hin

/-- Storing block `(b, h)` of the attention result into the scratch that holds the blocks before it. -/
theorem store_block {q k v : FVec F S512x512 .f32} (b h : ℕ) (hh : h < 8) {o : Fin 2 → ℕ}
    (ho : o = ![256 * b, 64 * h]) (hs : S512x512.Slices o S256x64)
    {hin : ∀ a, o a + S256x64.size a ≤ S512x512.size a}
    {f : (cc0_scratch0 : Ref sig .tc).ty.Contents (Elt F)} {w : FVec F S256x64 .f32}
    (hf : Agrees q k v (b * 8 + h) f) (hw : w = headVal o hs q k v) :
    Agrees q k v (b * 8 + h + 1) ((attnM.access (blkR o hin)).write (Elt F) f w Finset.univ) := by
  refine agrees_store b h hh o ho hs hin hf (fun j => ?_) (fun i hi => ?_)
  · rw [← hw]
    exact View.write_emb_of_mem (v := attnM.access (blkR o hin)) (Val := Elt F) f w (Finset.mem_univ j)
  · refine View.write_of_not_mem (v := attnM.access (blkR o hin)) (Val := Elt F) f w Finset.univ fun h => hi ?_
    have h' : i ∈ (attnM.access (blkR o hin)).set := h
    rwa [View.set_slice_whole] at h'

/-! ## The communication buffer -/

/-- Where an index of slot `h`'s rectangle lies, -/
theorem slotR_emb0 (h : Fin 4) (j : S1x512x768.Idx) : ((slotR h).emb j 0).val = h.val := by
  rw [Rect.emb_apply, Rect.stride_unit, Nat.one_mul, Rect.off_unit]
  have h0 : (j 0).val < 1 := (j 0).isLt
  show h.val + (j 0).val = h.val
  omega

/-- and which index of the slot it is. -/
theorem inSlot_emb (h : Fin 4) (j : S1x512x768.Idx) : inSlot ((slotR h).emb j) = j := by
  have h0 : (j 0).val < 1 := (j 0).isLt
  refine funext fun a => Fin.ext ?_
  revert a
  refine Fin.forall_fin_succ.mpr ⟨?_, Fin.forall_fin_two.mpr ⟨?_, ?_⟩⟩
  · show 0 = (j 0).val; omega
  · show 0 + 1 * (j 1).val = (j 1).val; omega
  · show 0 + 1 * (j 2).val = (j 2).val; omega

/-- Every index of slot `h` is one of its rectangle's. -/
theorem slotR_emb_of {h : Fin 4} {i : S4x512x768.Idx} (hi : (i 0).val = h.val) : (slotR h).emb (inSlot i) = i := by
  refine funext fun a => Fin.ext ?_
  rw [Rect.emb_apply, Rect.stride_unit, Nat.one_mul, Rect.off_unit]
  revert a
  refine Fin.forall_fin_succ.mpr ⟨?_, Fin.forall_fin_two.mpr ⟨?_, ?_⟩⟩
  · show h.val + 0 = (i 0).val; omega
  · show 0 + (i 1).val = (i 1).val; omega
  · show 0 + (i 2).val = (i 2).val; omega

/-- Slot `h` of `commBuf c` is the part of the device `h` places before `c`. -/
theorem commBuf_emb (c : Dev nD) (h : Fin 4) (j : S1x512x768.Idx) :
    commBuf m ρ c ((slotR h).emb j) = part m ρ (back h.val c) j := by
  unfold commBuf
  rw [slotR_emb0, inSlot_emb]

theorem read_slot (c : Dev nD) (h : Fin 4) :
    commM.view.readAt (Elt F) (slotR h).toLoadRect (commBuf m ρ c) = part m ρ (back h.val c) :=
  funext fun j => commBuf_emb m ρ c h j

/-- Storing a device's part into its slot 0 makes the slot `commBuf`'s. -/
theorem store_part (c : Dev nD) (f : Buf (Elt F) ((c : Thread nD τ).loc cc0_scratch1)) (i : S4x512x768.Idx)
    (hi : (i 0).val = (0 : Fin 4).val) :
    (commM.access (slotR 0)).write (Elt F) f (part m ρ c) Finset.univ i = commBuf m ρ c i := by
  rw [← slotR_emb_of hi, commBuf_emb]
  exact View.write_emb_of_mem (v := commM.access (slotR 0)) (Val := Elt F) f (part m ρ c) (Finset.mem_univ _)

/-- The copy of slot `h` of device `c` over slot `h + 1` of the next device makes that slot `commBuf`'s there. -/
theorem copy_slot (c : Dev nD) (h : Fin 3) (f : Buf (Elt F) ((nxt c : Thread nD τ).loc cc0_scratch1)) (i : S4x512x768.Idx)
    (hi : (i 0).val = h.succ.val) :
    (slotM h.succ).view.write (Elt F) f ((slotM h.castSucc).view.read (Elt F) (commBuf m ρ c)) Finset.univ i
      = commBuf m ρ (nxt c) i := by
  set j := (Shape.reshapeEquiv squeezes_S1x512x768_S512x768.numel_eq).symm (inSlot i) with hj
  have he : (Shape.reshapeEquiv squeezes_S1x512x768_S512x768.numel_eq) j = inSlot i := by rw [hj, Equiv.apply_symm_apply]
  have hd : (slotM h.succ).view.emb j = i := by
    show (slotR h.succ).emb ((Shape.reshapeEquiv squeezes_S1x512x768_S512x768.numel_eq) j) = i
    rw [he]; exact slotR_emb_of hi
  have hs : (slotM h.castSucc).view.emb j = (slotR h.castSucc).emb (inSlot i) := by
    show (slotR h.castSucc).emb ((Shape.reshapeEquiv squeezes_S1x512x768_S512x768.numel_eq) j) = _
    rw [he]
  calc _ = (slotM h.succ).view.write (Elt F) f ((slotM h.castSucc).view.read (Elt F) (commBuf m ρ c)) Finset.univ
        ((slotM h.succ).view.emb j) := by rw [hd]
    _ = (slotM h.castSucc).view.read (Elt F) (commBuf m ρ c) j :=
        View.write_emb_of_mem (v := (slotM h.succ).view) (Val := Elt F) f _ (Finset.mem_univ j)
    _ = commBuf m ρ c ((slotM h.castSucc).view.emb j) := rfl
    _ = part m ρ (back h.castSucc.val c) (inSlot i) := by rw [hs, commBuf_emb]
    _ = commBuf m ρ (nxt c) i := by
        unfold commBuf
        rw [hi, Fin.val_succ, back_succ_nxt, Fin.val_castSucc]

/-- Slot 0 after the store, -/
theorem slot_store_part (c : Dev nD) (f : Buf (Elt F) ((c : Thread nD τ).loc cc0_scratch1)) :
    slotPts c 0 ((commM.access (slotR 0)).write (Elt F) f (part m ρ c) Finset.univ)
      = (slotPts c 0 (commBuf m ρ c) : sProp 𝕄) := slotPts_congr (store_part m ρ c f)

/-- and slot `h + 1` of the next device after the copy. -/
theorem slot_copy (c : Dev nD) (h : Fin 3) (f : Buf (Elt F) ((nxt c : Thread nD τ).loc cc0_scratch1)) :
    slotPts (nxt c) h.succ ((slotM h.succ).view.write (Elt F) f ((slotM h.castSucc).view.read (Elt F) (commBuf m ρ c)) Finset.univ)
      = (slotPts (nxt c) h.succ (commBuf m ρ (nxt c)) : sProp 𝕄) := slotPts_congr (copy_slot m ρ c h f)

end Cert.KernelIdeal.Run

end
-- ==== Proof.KernelIdeal.Protocol.lean ====
/- The protocol of the four devices: their semaphore cells, what each round of a cell carries, what a
   device owes, and the levels that order the waits.

   A device has seven cells: the runtime's barrier semaphore and, for each of the three hops, a send
   and a receive semaphore. The barrier's round has two duties: `false`, paid by the device before with
   nothing, and `true`, paid by the device after with its slots 1, 2 and 3, which the copies
   write. A send semaphore gives the slot that was read back; a receive semaphore gives the slot that
   was written, at its final contents. -/
module

public import proofs.«01_k».proof.Proof.KernelIdeal.Moves

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells -/

/-- A device's cells: `none` its barrier, `some (false, h)` the send cell of hop `h`, `some (true, h)` the
    receive cell. -/
abbrev Kind : Type := Option (Bool × Fin 3)

abbrev barS : Sem sig := (SemArray.scalar (sig.barrier 0 rfl) : Sems sig S_).sem

theorem sem_inb (h : Fin 3) : ∀ a, (![h.val] : Fin 1 → ℕ) a + S1.size a ≤ S3.size a := by revert h; decide

abbrev sendS (h : Fin 3) : DmaSem sig :=
  ((cc0_scratch2.slice (Rect.unit (s := S3) ![h.val] S1.size (sem_inb h))).squeeze S_ squeezes_S1_S_).sem
abbrev recvS (h : Fin 3) : DmaSem sig :=
  ((cc0_scratch3.slice (Rect.unit (s := S3) ![h.val] S1.size (sem_inb h))).squeeze S_ squeezes_S1_S_).sem

/-- The semaphore of a hop: the kernel's own six. -/
def osem : Bool × Fin 3 → SemLoc sig
  | (false, h) => .dma (sendS h)
  | (true, h) => .dma (recvS h)

/-- The semaphore of a cell. -/
def csem : Kind → SemLoc sig
  | none => .reg barS
  | some k => osem k

theorem csem_injective : Function.Injective csem := by decide

/-- The cell a semaphore is, if it is one of the seven. -/
def kindOf (s : SemLoc sig) : Option Kind := by
  classical exact if h : ∃ k, csem k = s then some h.choose else none

theorem kindOf_csem (k : Kind) : kindOf (csem k) = some k := by
  unfold kindOf
  rw [dif_pos ⟨k, rfl⟩]
  exact congrArg some (csem_injective (Exists.choose_spec (p := fun k' => csem k' = csem k) ⟨k, rfl⟩))

/-- A semaphore that is none of the seven. -/
theorem kindOf_none {s : SemLoc sig} (h : ∀ k, csem k ≠ s) : kindOf s = none := by
  unfold kindOf
  exact dif_neg fun ⟨k, e⟩ => h k e

abbrev cell (c : Dev nD) (k : Kind) : GSem nD τ sig := ((c : Thread nD τ), csem k)

/-- The units one copy of a slot credits. -/
@[irreducible] def N : ℕ := (slotM 0).view.dmaCredit
theorem credit_N (h : Fin 4) : (slotM h).view.dmaCredit = N := by unfold N; rfl
theorem N_pos : 0 < N := by unfold N; exact View.dmaCredit_pos _ (by decide)

/-! ## The schedule -/

/-- What `c`'s barrier brings it from the next device: that device's slots 1, 2 and 3. -/
def barPay (c : Dev nD) : sProp 𝕄 := iprop(∃ f, slotPts (nxt c) 1 f ∗ slotPts (nxt c) 2 f ∗ slotPts (nxt c) 3 f)

/-- The payload of a duty. -/
def payOf (c : Dev nD) : Option Kind → Bool → sProp 𝕄
  | none, _ => iprop(emp)
  | some none, false => iprop(emp)
  | some none, true => barPay c
  | some (some (false, h)), _ => slotPts c h.castSucc (commBuf m ρ c)
  | some (some (true, h)), _ => slotPts c h.succ (commBuf m ρ c)

/-- The duties of a cell's one round. -/
def dutiesOf : Option Kind → Finset Bool
  | none => ∅
  | some none => Finset.univ
  | some (some _) => {false}

/-- The units of a duty. -/
def amountOf : Option Kind → ℕ
  | some (some _) => N
  | _ => 1

theorem amountOf_pos (k : Option Kind) : 0 < amountOf k := by
  unfold amountOf; split
  · exact N_pos
  · exact Nat.one_pos

/-- Every cell has one round. -/
def sched : Rounds.Schedule (GSem nD τ sig) Bool 𝕄 where
  duties g r := if r = 0 ∧ g.1.2 = .tc then dutiesOf (kindOf g.2) else ∅
  unitless _ := False
  amount g _ _ := amountOf (kindOf g.2)
  payload g _ d := payOf m ρ g.1.1 (kindOf g.2) d
  amount_pos g _ _ _ := amountOf_pos _

instance payOf_storable (c : Dev nD) (k : Option Kind) (d : Bool) :
    BI.Storable (upEmb : UEmb _ 𝕄) (payOf (F := F) m ρ c k d) := by
  unfold payOf barPay
  split <;> infer_instance

instance sched_storable (g : GSem nD τ sig) (r : ℕ) (d : Bool) :
    BI.Storable (upEmb : UEmb _ 𝕄) ((sched (F := F) m ρ).payload g r d) :=
  payOf_storable m ρ _ _ _

theorem sched_duties (c : Dev nD) (k : Kind) : (sched (F := F) m ρ).duties (cell c k) 0 = dutiesOf (some k) := by
  dsimp only [sched]
  rw [if_pos ⟨rfl, rfl⟩, kindOf_csem]

theorem sched_later (g : GSem nD τ sig) : ∀ r, 1 ≤ r → (sched (F := F) m ρ).duties g r = ∅ :=
  fun r hr => if_neg fun h => by have := h.1; omega

theorem sched_amount (c : Dev nD) (k : Kind) (r : ℕ) (d : Bool) :
    (sched (F := F) m ρ).amount (cell c k) r d = amountOf (some k) := by
  show amountOf (kindOf (csem k)) = _
  rw [kindOf_csem]

theorem sched_payload (c : Dev nD) (k : Kind) (r : ℕ) (d : Bool) :
    (sched (F := F) m ρ).payload (cell c k) r d = payOf m ρ c (some k) d := by
  show payOf m ρ c (kindOf (csem k)) d = _
  rw [kindOf_csem]

theorem false_mem (k : Kind) : false ∈ dutiesOf (some k) := by revert k; decide

/-- A whole round of the barrier is two units, of a hop's cell one copy's. -/
theorem expect_bar (c : Dev nD) : (sched (F := F) m ρ).expect (cell c none) 0 = 2 := by
  unfold Schedule.expect Schedule.amountOf
  rw [sched_duties, Finset.sum_congr rfl fun d _ => sched_amount m ρ c none 0 d]
  decide
theorem amountOf_hop (k : Bool × Fin 3) : amountOf (some (some k)) = N := by simp only [amountOf]
theorem sum_one (n : ℕ) : (∑ _d ∈ ({false} : Finset Bool), n) = n := Finset.sum_singleton (fun _ => n) false
theorem expect_hop (c : Dev nD) (k : Bool × Fin 3) : (sched (F := F) m ρ).expect (cell c (some k)) 0 = N := by
  unfold Schedule.expect Schedule.amountOf
  rw [sched_duties, Finset.sum_congr rfl fun d _ => sched_amount m ρ c (some k) 0 d, amountOf_hop k,
    show dutiesOf (some (some k)) = {false} from rfl]
  exact sum_one N

/-- What a round's wait brings: at the barrier the next device's slots, -/
theorem rest_bar (c : Dev nD) :
    bigSep ((sched (F := F) m ρ).duties (cell c none) 0 \ ∅) (fun d => (sched (F := F) m ρ).payload (cell c none) 0 d)
      = iprop(emp ∗ barPay c) := by
  rw [Finset.sdiff_empty, sched_duties]
  show bigSep Finset.univ _ = _
  rw [bigSep_univ_eq_bigSepL [false, true] (by decide) (by decide), bigSepL_cons_cons, bigSepL_singleton,
    sched_payload, sched_payload]
  rfl
/-- at a hop's cell the slot. -/
theorem rest_hop (c : Dev nD) (k : Bool × Fin 3) :
    bigSep ((sched (F := F) m ρ).duties (cell c (some k)) 0 \ ∅) (fun d => (sched (F := F) m ρ).payload (cell c (some k)) 0 d)
      = payOf m ρ c (some (some k)) false := by
  rw [Finset.sdiff_empty, sched_duties]
  show bigSep {false} _ = _
  rw [bigSep_singleton, sched_payload]

/-! ## What a device owes, and the levels -/

/-- The credit of hop `h` on the next device's receive cell. -/
def due (c : Dev nD) (h : Fin 3) : CellTallies nD τ sig Unit := tallyAt (cell (nxt c) (some (true, h))) () N

/-- What device `c` owes before hop `n`: the hops from `n` on. -/
def owed (c : Dev nD) : ℕ → CellTallies nD τ sig Unit
  | 0 => 0 + due c 2 + due c 1 + due c 0
  | 1 => 0 + due c 2 + due c 1
  | 2 => 0 + due c 2
  | _ => 0

theorem owed_step (c : Dev nD) (h : Fin 3) : owed c h.val = owed c (h.val + 1) + due c h := by
  revert h
  refine Fin.forall_fin_succ.mpr ⟨rfl, Fin.forall_fin_two.mpr ⟨rfl, rfl⟩⟩

/-- After the signal to the device before, it owes the next device's barrier a unit too; -/
def owed₁ (c : Dev nD) : CellTallies nD τ sig Unit := owed c 0 + tallyAt (cell (nxt c) none) () 1
/-- at launch, the other one as well. -/
def owed₀ (c : Dev nD) : CellTallies nD τ sig Unit := owed₁ c + tallyAt (cell (prv c) none) () 1

theorem tally_pos {g g' : GSem nD τ sig} {n : ℕ} {u : Unit} (h : 0 < tallyAt g' () n g u) : g = g' := by
  rw [tallyAt_apply] at h
  by_contra hn
  rw [if_neg fun h' => hn h'.1] at h
  exact Nat.lt_irrefl 0 h

theorem add_pos_or {A B : CellTallies nD τ sig Unit} {g : GSem nD τ sig} {u : Unit} (h : 0 < (A + B) g u) :
    0 < A g u ∨ 0 < B g u := by
  rw [Pi.add_apply, Finsupp.add_apply] at h
  exact Nat.add_pos_iff_pos_or_pos.mp h

/-- What is owed before hop `n` is owed to receive cells of later hops. -/
theorem owed_pos {c : Dev nD} {n : ℕ} {g : GSem nD τ sig} {u : Unit} (h : 0 < owed c n g u) :
    ∃ j : Fin 3, n ≤ j.val ∧ g = cell (nxt c) (some (true, j)) := by
  have z : ¬ 0 < (0 : CellTallies nD τ sig Unit) g u := Nat.lt_irrefl 0
  match n, h with
  | 0, h =>
    rcases add_pos_or h with h | h
    · rcases add_pos_or h with h | h
      · rcases add_pos_or h with h | h
        · exact absurd h z
        · exact ⟨2, by decide, tally_pos h⟩
      · exact ⟨1, by decide, tally_pos h⟩
    · exact ⟨0, by decide, tally_pos h⟩
  | 1, h =>
    rcases add_pos_or h with h | h
    · rcases add_pos_or h with h | h
      · exact absurd h z
      · exact ⟨2, by decide, tally_pos h⟩
    · exact ⟨1, by decide, tally_pos h⟩
  | 2, h =>
    rcases add_pos_or h with h | h
    · exact absurd h z
    · exact ⟨2, by decide, tally_pos h⟩
  | _ + 3, h => exact absurd h z

theorem owed₀_pos {c : Dev nD} {g : GSem nD τ sig} {u : Unit} (h : 0 < owed₀ c g u) :
    (∃ j : Fin 3, g = cell (nxt c) (some (true, j))) ∨ ∃ d : Dev nD, g = cell d none := by
  rcases add_pos_or h with h | h
  · rcases add_pos_or h with h | h
    · obtain ⟨j, _, e⟩ := owed_pos h; exact .inl ⟨j, e⟩
    · exact .inr ⟨_, tally_pos h⟩
  · exact .inr ⟨_, tally_pos h⟩

/-- The level of a cell: the barrier at 1, the receive cell of hop `h` at `2 + h`, anything else at 0. -/
def levOf : Option Kind → ℕ
  | some none => 1
  | some (some (true, h)) => 2 + h.val
  | _ => 0

def L (g : GSem nD τ sig) : Finset Unit := if g.1.2 = .tc then {()} else ∅
def lv (g : GSem nD τ sig) (_ : Unit) : ℕ := levOf (kindOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Kind) (u : Unit) : lv (cell c k) u = levOf (some k) := by
  show levOf (kindOf (csem k)) = _
  rw [kindOf_csem]

/-- A device may wait on a semaphore of a level below every cell it owes. -/
theorem mayWait (c : Dev nD) (sm : SemLoc sig) (O : CellTallies nD τ sig Unit)
    (hO : ∀ g u, 0 < O g u → ∃ d k, g = cell d k ∧ levOf (kindOf sm) < levOf (some k)) :
    (levAts L lv : sProp 𝕄) ⊢ MayWait (c : Thread nD τ) sm () O :=
  MayOwe.of_cut (L := L) (lev := lv) (levOf (kindOf sm))
    (fun p hp => by rw [Finset.mem_singleton.mp hp, L_tc]; exact Finset.mem_singleton_self _)
    (fun g u hg => by obtain ⟨d, k, e, _⟩ := hO g u hg; rw [e, L_tc]; exact Finset.mem_singleton_self _)
    (fun p hp => by rw [Finset.mem_singleton.mp hp]; exact Nat.le_refl _)
    (fun g u hg => by obtain ⟨d, k, e, hl⟩ := hO g u hg; rw [e, lv_cell]; exact hl)

/-- Owing the hops from `n` on, it may wait on any of its cells of a level below `2 + n`. -/
theorem mayWait_owed (c : Dev nD) (k : Kind) (n : ℕ) (hk : levOf (some k) < 2 + n) :
    (levAts L lv : sProp 𝕄) ⊢ MayWait (c : Thread nD τ) (csem k) () (owed c n) :=
  mayWait c _ _ fun g u hg => by
    obtain ⟨j, hj, e⟩ := owed_pos hg
    refine ⟨_, _, e, ?_⟩
    rw [kindOf_csem]
    show _ < 2 + j.val
    omega

/-- Owing all it owes at launch, or nothing, it may wait on a semaphore that is none of the seven. -/
theorem mayWait_stage (c : Dev nD) (sm : SemLoc sig) (hs : ∀ k, csem k ≠ sm) (O : CellTallies nD τ sig Unit)
    (hO : O = owed₀ c ∨ O = 0) : (levAts L lv : sProp 𝕄) ⊢ MayWait (c : Thread nD τ) sm () O :=
  mayWait c _ _ fun g u hg => by
    rw [kindOf_none hs]
    rcases hO with rfl | rfl
    · rcases owed₀_pos hg with ⟨j, e⟩ | ⟨d, e⟩
      · exact ⟨_, _, e, by show 0 < 2 + j.val; omega⟩
      · exact ⟨_, _, e, Nat.one_pos⟩
    · exact absurd hg (Nat.lt_irrefl 0)

end Cert.KernelIdeal.Run

end
-- ==== Proof.KernelIdeal.Steps.lean ====
/- The steps of one device's kernel, each as one rule: storing a block of the attention result, loading
   and storing a slot of the communication buffer, one hop of the ring. -/
module

public import proofs.«01_k».proof.Proof.KernelIdeal.Protocol

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The attention scratch -/

/-- Device `c`'s attention scratch, holding the first `n` blocks of its result. -/
def attnPts (c : Dev nD) (n : ℕ) : sProp 𝕄 :=
  iprop(∃ f : Buf (Elt F) ((c : Thread nD τ).loc cc0_scratch0), ⌜Agrees (qAt m ρ c) (kAt m ρ c) (vAt m ρ c) n f⌝
    ∗ (((c : Thread nD τ).loc cc0_scratch0) ↦{fullShare} f))

theorem attnPts_all (c : Dev nD) : attnPts m ρ c 16 ⊢ (((c : Thread nD τ).loc cc0_scratch0) ↦{fullShare} attnAt m ρ c : sProp 𝕄) := by
  unfold attnPts
  iintro ⟨%f, %hf, H⟩
  rw [agrees_all hf]
  iexact H

theorem slices_of_inb {o : Fin 2 → ℕ} (hin : ∀ a, o a + S256x64.size a ≤ S512x512.size a) : S512x512.Slices o S256x64 :=
  ⟨rfl, hin⟩

/-- The kernel's step for one block: the load whose answer is not used, and the store. -/
theorem wp_block (c : Dev nD) (b h : ℕ) (hh : h < 8) {o : Fin 2 → ℕ} (ho : o = ![256 * b, 64 * h])
    {hin : ∀ a, o a + S256x64.size a ≤ S512x512.size a} {w : FVec F S256x64 .f32}
    (hw : w = headVal o (slices_of_inb hin) (qAt m ρ c) (kAt m ρ c) (vAt m ρ c)) (n n' : ℕ) (hn : n = b * 8 + h) (hn' : n' = n + 1)
    {hl : attnM.view.LoadsAt (blkR o hin).toLoadRect} {hx : (attnM.access (blkR o hin)).Stores Finset.univ}
    {hm : (Finset.univ : Finset (blkR o hin).shape.Idx) = Finset.univ ∨ ∀ a, (blkR o hin).stride a = 1}
    {k : PUnit → Prog (TpuEff nD τ sig (Elt F) Λ₀ .tc) PUnit} {Q : PUnit → sProp 𝕄} :
    attnPts m ρ c n
      ⊢ iprop((attnPts m ρ c n' -∗ wp frame (wpE (defs₀ (F := F)) 𝒱₀ (c : Thread nD τ) none) Set.univ (k ⟨⟩) Q)
          -∗ wp frame (wpE (defs₀ (F := F)) 𝒱₀ (c : Thread nD τ) none) Set.univ
              (.op (.load attnM (blkR o hin).toLoadRect hl) fun _ => .op (.store attnM (blkR o hin) w Finset.univ hx hm) k) Q) := by
  subst hn' hn
  unfold attnPts
  iintro ⟨%f, %hf, H⟩ Hk
  iapply (wp_load 𝒱₀ (c : Thread nD τ) none Set.univ (m := attnM) (Finset.subset_univ _)) $$ H; iintro H
  iapply (wp_store 𝒱₀ (c : Thread nD τ) none Set.univ (m := attnM) (r := blkR o hin) (Mk := Finset.univ) (Finset.subset_univ _)) $$ H; iintro H
  iapply Hk
  iexists ((attnM.access (blkR o hin)).write (Elt F) f w Finset.univ)
  isplitr
  · ipureintro; exact store_block b h hh ho (slices_of_inb hin) hf hw
  iexact H

/-! ## The slots -/

omit [FloatOps F] in
theorem slot_loads (h : Fin 4) : commM.view.setOn (slotR h).toLoadRect.set ⊆ slotSet h := by
  have e := access_set h
  rw [View.set_slice] at e
  exact e.le

/-- Loading a slot. -/
theorem wp_slot_load (c : Dev nD) (h : Fin 4) (f : Buf (Elt F) ((c : Thread nD τ).loc cc0_scratch1))
    {hl : commM.view.LoadsAt (slotR h).toLoadRect}
    {k : (S1x512x768.Idx → Elt F .f32) → Prog (TpuEff nD τ sig (Elt F) Λ₀ .tc) PUnit} {Q : PUnit → sProp 𝕄} :
    slotPts c h f
      ⊢ iprop((slotPts c h f -∗ wp frame (wpE (defs₀ (F := F)) 𝒱₀ (c : Thread nD τ) none) Set.univ
              (k (commM.view.readAt (Elt F) (slotR h).toLoadRect f)) Q)
          -∗ wp frame (wpE (defs₀ (F := F)) 𝒱₀ (c : Thread nD τ) none) Set.univ (.op (.load commM (slotR h).toLoadRect hl) k) Q) := by
  unfold slotPts
  exact wp_load 𝒱₀ (c : Thread nD τ) none Set.univ (m := commM) (slot_loads h)

/-- Storing a device's part into its slot 0. -/
theorem wp_slot_store (c : Dev nD) (f : Buf (Elt F) ((c : Thread nD τ).loc cc0_scratch1)) {w : FVec F S1x512x768 .f32}
    (hw : w = part m ρ c) {hx : (commM.access (slotR 0)).Stores Finset.univ}
    {hm : (Finset.univ : Finset (slotR 0).shape.Idx) = Finset.univ ∨ ∀ a, (slotR 0).stride a = 1}
    {k : PUnit → Prog (TpuEff nD τ sig (Elt F) Λ₀ .tc) PUnit} {Q : PUnit → sProp 𝕄} :
    slotPts c 0 f
      ⊢ iprop((slotPts c 0 (commBuf m ρ c) -∗ wp frame (wpE (defs₀ (F := F)) 𝒱₀ (c : Thread nD τ) none) Set.univ (k ⟨⟩) Q)
          -∗ wp frame (wpE (defs₀ (F := F)) 𝒱₀ (c : Thread nD τ) none) Set.univ
              (.op (.store commM (slotR 0) w Finset.univ hx hm) k) Q) := by
  subst hw
  rw [← slot_store_part m ρ c f]
  unfold slotPts
  exact wp_store 𝒱₀ (c : Thread nD τ) none Set.univ (m := commM) (r := slotR 0) (Mk := Finset.univ) (access_set 0).le

/-! ## What the devices share, and a hop -/

/-- Every cell's invariant, under the names `K`, and that its round 0 is reached. -/
def records (K : Dev nD × Kind → ℕ) : sProp 𝕄 :=
  iprop((bigSep Finset.univ fun ck : Dev nD × Kind => cellInv ER (sched m ρ) (K ck) (cell ck.1 ck.2))
    ∗ bigSep Finset.univ fun ck : Dev nD × Kind => reached ER (cell ck.1 ck.2) 0)

instance records_persistent (K : Dev nD × Kind → ℕ) : BI.Persistent (records m ρ K) := by unfold records; infer_instance

theorem records_inv (K : Dev nD × Kind → ℕ) (c : Dev nD) (k : Kind) :
    records m ρ K ⊢ cellInv ER (sched m ρ) (K (c, k)) (cell c k) :=
  sep_elim_left.trans (bigSep_elim (Φ := fun ck : Dev nD × Kind => cellInv ER (sched m ρ) (K ck) (cell ck.1 ck.2)) (Finset.mem_univ (c, k)))

theorem records_reached (K : Dev nD × Kind → ℕ) (c : Dev nD) (k : Kind) :
    records m ρ K ⊢ reached ER (cell c k) 0 :=
  sep_elim_right.trans (bigSep_elim (Φ := fun ck : Dev nD × Kind => (reached ER (cell ck.1 ck.2) 0 : sProp 𝕄)) (Finset.mem_univ (c, k)))

/-- What device `c` holds for hop `h`: its positions on the hop's two cells and the tokens of the two duties its copy pays. -/
def hopGhost (c : Dev nD) (h : Fin 3) : sProp 𝕄 :=
  iprop(atPos ER (cell c (some (false, h))) 0 ∅ 0 ∗ atPos ER (cell c (some (true, h))) 0 ∅ 0
    ∗ dutyTok ER (cell c (some (false, h))) 0 false ∗ dutyTok ER (cell (nxt c) (some (true, h))) 0 false)

/-- The enqueue of a hop's copy. -/
theorem wp_copy (K : Dev nD × Kind → ℕ) (c n : Dev nD) (hn : n = nxt c) (h : Fin 3)
    {hsc : (slotM h.succ : Memref sig (Dev.tc n : Thread nD τ).2.kind .vmem S512x768 .f32).view.ref.isScScratch = false}
    {hsrc : (slotM h.castSucc).view.WordExact} {hdst : (slotM h.succ).view.WordExact}
    {hsem : DmaTarget.Typed .vmem (.dma (recvS h)) (.remote (Dev.tc n : Thread nD τ) (slotM h.succ) (.dma (sendS h)) hsc)}
    {k : PUnit → Prog (TpuEff nD τ sig (Elt F) Λ₀ .tc) PUnit} {Q : PUnit → sProp 𝕄}
    (fn : Buf (Elt F) ((nxt c : Thread nD τ).loc cc0_scratch1)) (W : Waits sig Unit) :
    iprop(cellInv ER (sched m ρ) (K (c, some (false, h))) (cell c (some (false, h)))
        ∗ cellInv ER (sched m ρ) (K (nxt c, some (true, h))) (cell (nxt c) (some (true, h)))
        ∗ slotPts c h.castSucc (commBuf m ρ c) ∗ slotPts (nxt c) h.succ fn
        ∗ owes (c : Thread nD τ) (owed c h.val) W
        ∗ dutyTok ER (cell c (some (false, h))) 0 false ∗ reached ER (cell c (some (false, h))) 0
        ∗ dutyTok ER (cell (nxt c) (some (true, h))) 0 false ∗ reached ER (cell (nxt c) (some (true, h))) 0)
      ⊢ iprop(((cred (tallyAt (cell c (some (false, h))) () N) ∗ owes (c : Thread nD τ) (owed c (h.val + 1)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM h.castSucc) (.remote (Dev.tc n : Thread nD τ) (slotM h.succ) (.dma (sendS h)) hsc)
                (.dma (recvS h)) hsrc hdst hsem) k) Q) := by
  subst hn
  have e : ∀ (d : Dev nD) (j : Fin 4) (f : Buf (Elt F) ((d : Thread nD τ).loc cc0_scratch1)),
      (slotPts d j f : sProp 𝕄) = (((slotM j).view.loc (d : Thread nD τ)) ↦[(slotM j).view.set]{fullShare} f) := by
    intro d j f; rw [slotM_set]; rfl
  have hd : ∀ (d : Dev nD) (b : Bool), false ∈ (sched m ρ).duties (cell d (some (b, h))) 0 := by
    intro d b; rw [sched_duties]; exact false_mem _
  have hp₁ : (((slotM h.castSucc).view.loc (c : Thread nD τ)) ↦[(slotM h.castSucc).view.set]{fullShare} commBuf m ρ c : sProp 𝕄)
      ⊢ (sched m ρ).payload (cell c (some (false, h))) 0 false := by
    rw [sched_payload m ρ c (some (false, h)), ← e c]; exact BI.Entails.refl _
  have hp₂ : (((slotM h.succ).view.loc (nxt c : Thread nD τ)) ↦[(slotM h.succ).view.set]{fullShare}
        ((slotM h.succ).view.write (Elt F) fn ((slotM h.castSucc).view.read (Elt F) (commBuf m ρ c)) Finset.univ) : sProp 𝕄)
      ⊢ (sched m ρ).payload (cell (nxt c) (some (true, h))) 0 false := by
    rw [sched_payload m ρ (nxt c) (some (true, h)), ← e (nxt c), slot_copy]; exact BI.Entails.refl _
  rw [e c, e (nxt c)]
  exact Rounds.wp_send_pointsTo 𝒱₀ ER (sched m ρ) (c : Thread nD τ) none (c' := (nxt c : Thread nD τ)) (κ₁ := K (c, some (false, h)))
    (κ₂ := K (nxt c, some (true, h))) (r₁ := 0) (r₂ := 0) (d₁ := false) (d₂ := false) (fs := commBuf m ρ c) (fd := fn)
    (src := slotM h.castSucc) (dst := slotM h.succ) (sS := .dma (sendS h)) (sem := .dma (recvS h))
    (hd c false) (hd (nxt c) true)
    () () N (credit_N h.succ) (sched_amount m ρ c (some (false, h)) 0 false) (sched_amount m ρ (nxt c) (some (true, h)) 0 false)
    (owed c (h.val + 1)) (owed_step c h) (W := W) hp₁ hp₂

/-- A wait on one of a hop's two cells, the cell closed after it. -/
theorem wp_hop_wait (K : Dev nD × Kind → ℕ) (c : Dev nD) (b : Bool) (h : Fin 3) (q : DmaSem sig) (hq : SemLoc.dma q = osem (b, h))
    (i j : Fin 4) (n : ℕ) (hlt : levOf (some (some (b, h))) < 2 + n)
    {hsrc : (slotM i).view.WordExact} {hdst : (slotM j).view.WordExact}
    {k : PUnit → Prog (TpuEff nD τ sig (Elt F) Λ₀ .tc) PUnit} {Q : PUnit → sProp 𝕄} (W : Waits sig Unit) :
    iprop(records m ρ K ∗ levAts L lv ∗ cred (tallyAt (cell c (some (b, h))) () N) ∗ owes (c : Thread nD τ) (owed c n) W
        ∗ atPos ER (cell c (some (b, h))) 0 ∅ 0)
      ⊢ iprop(((∃ W', owes (c : Thread nD τ) (owed c n) W') ∗ semVal (cell c (some (b, h))) 0 ∗ payOf m ρ c (some (some (b, h))) false
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 q (slotM i) (slotM j) hsrc hdst) k) Q) := by
  have hw : ∀ X : PUnit → sProp 𝕄, wpE (defs₀ (F := F)) 𝒱₀ (c : Thread nD τ) none Set.univ (.waitDma2 q (slotM i) (slotM j) hsrc hdst) X
      = waitSpec (c : Thread nD τ) Set.univ (osem (b, h)) N X := by
    intro X; rw [← hq, ← credit_N j]; exact wpE_waitDma2_eq 𝒱₀ (c : Thread nD τ) none Set.univ X
  iintro ⟨#HR, #Hlev, Hcr, HO, Hat⟩ Hk
  iapply (Rounds.wp_wait_rest_token 𝒱₀ ER (sched m ρ) (c : Thread nD τ) none (κ := K (c, some (b, h))) (sm := csem (some (b, h)))
      hw (Set.mem_univ _) () (O := owed c n) (W := W) (R := 0) (m := 0) (T := ∅)
      ((Nat.zero_add N).trans (expect_hop m ρ c (b, h)).symm)) $$ [Hcr HO Hat]
  · isplitr; · iapply (records_inv m ρ K c (some (b, h))); iexact HR
    isplitl [Hcr]; · iexact Hcr
    isplitl [HO]; · iexact HO
    isplitr; · iapply (mayWait_owed c (some (b, h)) n hlt); iexact Hlev
    iexact Hat
  iintro ⟨HO, Hat, -, Hpay⟩
  ihave Hp := (Entails.of_eq (rest_hop m ρ c (b, h))) $$ Hpay
  imod (Rounds.cell_close ER (sched m ρ) (Set.mem_univ (K (c, some (b, h)))) (fun h => h) (R := 0 + 1)
    (sched_later m ρ (cell c (some (b, h))))) $$ [Hat] with Hz
  · isplitr; · iapply (records_inv m ρ K c (some (b, h))); iexact HR
    iexact Hat
  iapply Hk
  isplitl [HO]; · iexists _; iexact HO
  isplitl [Hz]; · iexact Hz
  iexact Hp

/-- One hop: the copy of slot `h` to the next device's slot `h + 1`, the wait for it to have left, and the wait for the
    device before's to have come: slot `h` is as before, slot `h + 1` holds what the device before had in its slot `h`. -/
theorem wp_hop (K : Dev nD × Kind → ℕ) (c n : Dev nD) (hn : n = nxt c) (h : Fin 3)
    {hsc : (slotM h.succ : Memref sig (Dev.tc n : Thread nD τ).2.kind .vmem S512x768 .f32).view.ref.isScScratch = false}
    {hsrc hsrc₁ : (slotM h.castSucc).view.WordExact} {hdst hdst₁ : (slotM h.succ).view.WordExact}
    {hsrc₂ : (slotM h.castSucc).view.WordExact} {hdst₂ : (slotM h.succ).view.WordExact}
    {hsem : DmaTarget.Typed .vmem (.dma (recvS h)) (.remote (Dev.tc n : Thread nD τ) (slotM h.succ) (.dma (sendS h)) hsc)}
    {k : PUnit → Prog (TpuEff nD τ sig (Elt F) Λ₀ .tc) PUnit} {Q : PUnit → sProp 𝕄}
    (fn : Buf (Elt F) ((nxt c : Thread nD τ).loc cc0_scratch1)) (W : Waits sig Unit) (n₀ n₁ : ℕ) (hn₀ : n₀ = h.val) (hn₁ : n₁ = h.val + 1)
    (j₀ j₁ : Fin 4) (hj₀ : j₀ = h.castSucc) (hj₁ : j₁ = h.succ) :
    iprop(records m ρ K ∗ levAts L lv ∗ slotPts c j₀ (commBuf m ρ c) ∗ slotPts (nxt c) j₁ fn
        ∗ owes (c : Thread nD τ) (owed c n₀) W ∗ hopGhost c h ∗ cred (tallyAt (cell c (some (true, h))) () N))
      ⊢ iprop((((∃ W', owes (c : Thread nD τ) (owed c n₁) W')
              ∗ (semVal (cell c (some (false, h))) 0 ∗ semVal (cell c (some (true, h))) 0)
              ∗ slotPts c j₀ (commBuf m ρ c) ∗ slotPts c j₁ (commBuf m ρ c))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM h.castSucc) (.remote (Dev.tc n : Thread nD τ) (slotM h.succ) (.dma (sendS h)) hsc)
                (.dma (recvS h)) hsrc hdst hsem) fun _ =>
               .op (.waitDma2 (sendS h) (slotM h.succ) (slotM h.castSucc) hdst₁ hsrc₁) fun _ =>
               .op (.waitDma2 (recvS h) (slotM h.castSucc) (slotM h.succ) hsrc₂ hdst₂) k) Q) := by
  subst hn₀ hn₁ hj₀ hj₁
  unfold hopGhost
  iintro ⟨#HR, #Hlev, Hs, Hn, HO, ⟨HaS, HaR, HtS, HtR⟩, Hcr⟩ Hk
  iapply (wp_copy m ρ K c n hn h fn W) $$ [Hs Hn HO HtS HtR]
  · isplitr; · iapply (records_inv m ρ K c (some (false, h))); iexact HR
    isplitr; · iapply (records_inv m ρ K (nxt c) (some (true, h))); iexact HR
    isplitl [Hs]; · iexact Hs
    isplitl [Hn]; · iexact Hn
    isplitl [HO]; · iexact HO
    isplitl [HtS]; · iexact HtS
    isplitr; · iapply (records_reached m ρ K c (some (false, h))); iexact HR
    isplitl [HtR]; · iexact HtR
    iapply (records_reached m ρ K (nxt c) (some (true, h))); iexact HR
  iintro ⟨HcS, HO⟩
  iapply (wp_hop_wait m ρ K c false h (sendS h) rfl h.succ h.castSucc (h.val + 1) (by show 0 < _; omega) W) $$ [HcS HO HaS]
  · isplitr; · iexact HR
    isplitr; · iexact Hlev
    isplitl [HcS]; · iexact HcS
    isplitl [HO]; · iexact HO
    iexact HaS
  iintro ⟨⟨%W₁, HO⟩, HzS, Hs⟩
  iapply (wp_hop_wait m ρ K c true h (recvS h) rfl h.castSucc h.succ (h.val + 1) (by show 2 + h.val < _; omega) W₁) $$ [Hcr HO HaR]
  · isplitr; · iexact HR
    isplitr; · iexact Hlev
    isplitl [Hcr]; · iexact Hcr
    isplitl [HO]; · iexact HO
    iexact HaR
  iintro ⟨HO, HzR, Hr⟩
  iapply Hk
  isplitl [HO]; · iexact HO
  isplitl [HzS HzR]
  · isplitl [HzS]; · iexact HzS
    iexact HzR
  ihave Hs := (Entails.of_eq (show payOf m ρ c (some (some (false, h))) false = slotPts c h.castSucc (commBuf m ρ c) from rfl)) $$ Hs
  ihave Hr := (Entails.of_eq (show payOf m ρ c (some (some (true, h))) false = slotPts c h.succ (commBuf m ρ c) from rfl)) $$ Hr
  isplitl [Hs]; · iexact Hs
  iexact Hr

end Cert.KernelIdeal.Run

end
-- ==== Proof.KernelIdeal.Body.lean ====
/- One device's kernel, run from what it starts with to what it ends with. -/
module

public import proofs.«01_k».proof.Proof.KernelIdeal.Steps

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Before and after -/

/-- Device `c`'s result: the four parts summed, its own first and then those of the devices one, two, three places before. -/
def outAt (c : Dev nD) : (cc0_stg5_0 : Ref sig .tc).ty.Contents (Elt F) :=
  k0_pay1 (k0_pay40 (k0_pay39 (k0_pay38 (part m ρ (back 0 c))) (part m ρ (back 1 c))) (part m ρ (back 2 c)))
    (k0_pay41 (part m ρ (back 3 c)))

/-- What device `c` holds of the protocol at the start. -/
def ghost (K : Dev nD × Kind → ℕ) (c : Dev nD) : sProp 𝕄 :=
  iprop(records m ρ K
    ∗ (atPos ER (cell c none) 0 ∅ 0 ∗ dutyTok ER (cell (nxt c) none) 0 false ∗ dutyTok ER (cell (prv c) none) 0 true)
    ∗ bigSep Finset.univ fun h : Fin 3 => hopGhost c h)

/-- That at some names, its credits and the levels. -/
def start (c : Dev nD) : sProp 𝕄 :=
  iprop((∃ K, ghost m ρ K c) ∗ cred (tallyAt (cell c none) () 2)
    ∗ (bigSep Finset.univ fun h : Fin 3 => cred (tallyAt (cell c (some (true, h))) () N)) ∗ levAts L lv)

def Φ₀ (c : Dev nD) : sProp 𝕄 :=
  iprop(start m ρ c
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- At the end: both scratch buffers' contents, and the seven cells' counters at zero. -/
def Φ₁ (c : Dev nD) : sProp 𝕄 :=
  iprop((((c : Thread nD τ).loc cc0_scratch0) ↦{fullShare} attnAt m ρ c)
    ∗ (((c : Thread nD τ).loc cc0_scratch1) ↦{fullShare} commBuf m ρ c)
    ∗ semVal (cell c none) 0
    ∗ bigSep Finset.univ fun h : Fin 3 => iprop(semVal (cell c (some (false, h))) 0 ∗ semVal (cell c (some (true, h))) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m ρ c
    | ⟨1, _⟩ => wqAt m ρ c
    | ⟨2, _⟩ => wkAt m ρ c
    | ⟨3, _⟩ => wvAt m ρ c
    | ⟨4, _⟩ => woAt m ρ c
    | ⟨5, _⟩ => outAt m ρ c
  Φ t := match t with
    | ⟨0, _⟩ => Φ₀ m ρ c
    | ⟨_ + 1, _⟩ => Φ₁ m ρ c
  q _ := fullShare
  owed t := match t with
    | ⟨0, _⟩ => owed₀ c
    | ⟨_ + 1, _⟩ => 0

abbrev t₀ : Fin cfg0.N := t0_0

omit [FloatOps F] in
theorem owns_stage (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
theorem sep_fin3 (Φ : Fin 3 → sProp 𝕄) : bigSep Finset.univ Φ = iprop(Φ 0 ∗ Φ 1 ∗ Φ 2) :=
  bigSep_univ_eq_bigSepL [0, 1, 2] (by decide) (by decide) Φ

/-! ## The whole-array loads and the whole-array store -/

theorem zero2 : (![0, 0] : Fin 2 → Nat) = fun _ => 0 := funext fun a => by fin_cases a <;> rfl
theorem zero3 : (![0, 0, 0] : Fin 3 → Nat) = fun _ => 0 := funext fun a => by fin_cases a <;> rfl

abbrev rX : Rect S2x256x768 := Rect.unit (s := S2x256x768) ![0, 0, 0] S2x256x768.size inb_S2x256x768_S2x256x768_0_0_0
abbrev rW : Rect S768x512 := Rect.unit (s := S768x512) ![0, 0] S768x512.size inb_S768x512_S768x512_0_0
abbrev rO : Rect S512x768 := Rect.unit (s := S512x768) ![0, 0] S512x768.size inb_S512x768_S512x768_0_0
abbrev rA : Rect S512x512 := Rect.unit (s := S512x512) ![0, 0] S512x512.size inb_S512x512_S512x512_0_0

omit [FloatOps F] in
theorem read_x (f : (cc0_stg0_0 : Ref sig .tc).ty.Contents (Elt F)) :
    (Memref.whole cc0_stg0_0 : Memref sig .tc .vmem S2x256x768 .f32).view.readAt (Elt F) rX.toLoadRect f = f :=
  Memref.readAt_unit_zero (Elt F) cc0_stg0_0 zero3 _ f
omit [FloatOps F] in
theorem read_wq (f : (cc0_stg1_0 : Ref sig .tc).ty.Contents (Elt F)) :
    (Memref.whole cc0_stg1_0 : Memref sig .tc .vmem S768x512 .f32).view.readAt (Elt F) rW.toLoadRect f = f :=
  Memref.readAt_unit_zero (Elt F) cc0_stg1_0 zero2 _ f
omit [FloatOps F] in
theorem read_wk (f : (cc0_stg2_0 : Ref sig .tc).ty.Contents (Elt F)) :
    (Memref.whole cc0_stg2_0 : Memref sig .tc .vmem S768x512 .f32).view.readAt (Elt F) rW.toLoadRect f = f :=
  Memref.readAt_unit_zero (Elt F) cc0_stg2_0 zero2 _ f
omit [FloatOps F] in
theorem read_wv (f : (cc0_stg3_0 : Ref sig .tc).ty.Contents (Elt F)) :
    (Memref.whole cc0_stg3_0 : Memref sig .tc .vmem S768x512 .f32).view.readAt (Elt F) rW.toLoadRect f = f :=
  Memref.readAt_unit_zero (Elt F) cc0_stg3_0 zero2 _ f
omit [FloatOps F] in
theorem read_wo (f : (cc0_stg4_0 : Ref sig .tc).ty.Contents (Elt F)) :
    (Memref.whole cc0_stg4_0 : Memref sig .tc .vmem S512x768 .f32).view.readAt (Elt F) rO.toLoadRect f = f :=
  Memref.readAt_unit_zero (Elt F) cc0_stg4_0 zero2 _ f
omit [FloatOps F] in
theorem read_attn (f : (cc0_scratch0 : Ref sig .tc).ty.Contents (Elt F)) :
    attnM.view.readAt (Elt F) rA.toLoadRect f = f :=
  Memref.readAt_unit_zero (Elt F) cc0_scratch0 zero2 _ f
omit [FloatOps F] in
theorem write_out (f w : (cc0_stg5_0 : Ref sig .tc).ty.Contents (Elt F)) :
    ((Memref.whole cc0_stg5_0 : Memref sig .tc .vmem S2x256x768 .f32).access rX : View sig .tc _ _ _).write (Elt F) f w Finset.univ = w :=
  Memref.write_access_unit_zero_univ (Elt F) cc0_stg5_0 zero3 _ f w

/-! ## The barrier's duties -/

theorem bar_false_mem (c : Dev nD) : false ∈ (sched (F := F) m ρ).duties (cell c none) 0 := by
  rw [sched_duties]; exact false_mem _
theorem true_mem (c : Dev nD) : true ∈ (sched (F := F) m ρ).duties (cell c none) 0 := by
  rw [sched_duties]; exact Finset.mem_univ _

/-- To the device before, the signal hands over slots 1, 2 and 3; to the device after, nothing. -/
theorem pay_prv (c : Dev nD) : (sched (F := F) m ρ).payload ((prv c : Thread nD τ), .reg barS) 0 true
    = iprop(∃ f, slotPts c 1 f ∗ slotPts c 2 f ∗ slotPts c 3 f) := by
  refine (sched_payload m ρ (prv c) none 0 true).trans ?_
  show barPay (prv c) = _
  unfold barPay
  rw [nxt_prv]
theorem pay_nxt (c : Dev nD) : (sched (F := F) m ρ).payload ((nxt c : Thread nD τ), .reg barS) 0 false = (iprop(emp) : sProp 𝕄) :=
  sched_payload m ρ (nxt c) none 0 false

theorem attnPts_none (c : Dev nD) (f : Buf (Elt F) ((c : Thread nD τ).loc cc0_scratch0)) :
    (((c : Thread nD τ).loc cc0_scratch0) ↦{fullShare} f : sProp 𝕄) ⊢ attnPts m ρ c 0 := by
  unfold attnPts
  iintro H
  iexists f
  isplitr
  · ipureintro; exact agrees_zero _ _ _ f
  iexact H

/-! ## The kernel -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

def bodyPost (c : Dev nD) : sProp 𝕄 :=
  iprop(Φ₁ m ρ c ∗ (dats m ρ 0 c).owesAt () t₀.succ
    ∗ stg c cc0_stg0_0 (xAt m ρ c) ∗ stg c cc0_stg1_0 (wqAt m ρ c) ∗ stg c cc0_stg2_0 (wkAt m ρ c)
    ∗ stg c cc0_stg3_0 (wvAt m ρ c) ∗ stg c cc0_stg4_0 (woAt m ρ c) ∗ stg c cc0_stg5_0 (outAt m ρ c))

set_option maxHeartbeats 4000000 in
set_option maxRecDepth 65536 in
/-- The kernel on device `c`, from what it starts with to what it ends with. -/
theorem sound_body (c : Dev nD) (Kt : PUnit → sProp 𝕄) :
    iprop(bodyPre m ρ c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _)
            cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton]
  unfold k0_part1_skel k0_part2_skel k0_part3_skel k0_part4_skel k0_part5_skel k0_part6_skel k0_part7_skel k0_part8_skel
    k0_part9_skel k0_part10_skel k0_part11_skel k0_part12_skel
  simp only [semSignalWord, semWaitWord, Prog.lift, Prog.bind_op, Prog.bind_ret, Prog.pure_eq_ret, wp_deviceId]
  unfold bodyPre Φ₀ start ghost
  simp only [sep_fin3]
  iintro ⟨⟨⟨⟨⟨%K, #HR, ⟨HaB, HtN, HtP⟩, HG0, HG1, HG2⟩, HcB, ⟨Hc0, Hc1, Hc2⟩, #Hlev⟩, ⟨%fa, Ha⟩, ⟨%fc, Hcomm⟩⟩, Ho,
    ⟨%d0, %g0, %hg0, Hx⟩, ⟨%d1, %g1, %hg1, Hq⟩, ⟨%d2, %g2, %hg2, Hk⟩, ⟨%d3, %g3, %hg3, Hv⟩, ⟨%d4, %g4, %hg4, Hwo⟩,
    ⟨%d5, %g5, %hg5, Hout⟩⟩, Hend⟩
  have hx : g0 = xAt m ρ c := by rw [hg0]; unfold Dat.before; rw [if_pos (fetch0_0 t₀)]; rfl
  have hq : g1 = wqAt m ρ c := by rw [hg1]; unfold Dat.before; rw [if_pos (fetch0_1 t₀)]; rfl
  have hk : g2 = wkAt m ρ c := by rw [hg2]; unfold Dat.before; rw [if_pos (fetch0_2 t₀)]; rfl
  have hv : g3 = wvAt m ρ c := by rw [hg3]; unfold Dat.before; rw [if_pos (fetch0_3 t₀)]; rfl
  have hwo : g4 = woAt m ρ c := by rw [hg4]; unfold Dat.before; rw [if_pos (fetch0_4 t₀)]; rfl
  subst hx hq hk hv hwo
  unfold Dat.owesAt Pipeline.owesWithin
  icases Ho with ⟨%W, %hW, HO⟩
  rw [show (dats m ρ 0 c).owed t₀.castSucc = owed₁ c + tallyAt (cell (prv c) none) () 1 from rfl]
  simp only [dev1_eq c, dev2_eq c]
  -- the slots of its communication buffer: slots 1, 2 and 3 go to the device before, with the signal to it
  ihave Hcomm := (Entails.of_eq (comm_split c fc)) $$ Hcomm
  icases Hcomm with ⟨Hs0, Hs1, Hs2, Hs3⟩
  iapply (Rounds.wp_signal 𝒱₀ ER (sched m ρ) (c : Thread nD τ) none (dst := (prv c : Thread nD τ)) (κ := K (prv c, none))
      (d := true) (true_mem m ρ (prv c)) (sched_amount m ρ (prv c) none 0 true) () (owed₁ c) rfl)
    $$ [HO HtP Hs1 Hs2 Hs3]
  · isplitr; · iapply (records_inv m ρ K (prv c) none); iexact HR
    isplitl [HO]; · iexact HO
    isplitl [HtP]; · iexact HtP
    isplitl [Hs1 Hs2 Hs3]
    · iapply (Entails.of_eq (pay_prv m ρ c).symm)
      iexists fc
      isplitl [Hs1]; · iexact Hs1
      isplitl [Hs2]; · iexact Hs2
      iexact Hs3
    iapply (records_reached m ρ K (prv c) none); iexact HR
  iintro HO
  unfold owed₁
  -- the signal to the device after, which hands nothing over
  iapply (Rounds.wp_signal 𝒱₀ ER (sched m ρ) (c : Thread nD τ) none (dst := (nxt c : Thread nD τ)) (κ := K (nxt c, none))
      (d := false) (bar_false_mem m ρ (nxt c)) (sched_amount m ρ (nxt c) none 0 false) () (owed c 0) rfl)
    $$ [HO HtN]
  · isplitr; · iapply (records_inv m ρ K (nxt c) none); iexact HR
    isplitl [HO]; · iexact HO
    isplitl [HtN]; · iexact HtN
    isplitr; · iapply (Entails.of_eq (pay_nxt m ρ c).symm); iempintro
    iapply (records_reached m ρ K (nxt c) none); iexact HR
  iintro HO
  -- the wait for the two signals to it: the next device's slots 1, 2 and 3 come with it
  iapply (Rounds.wp_wait_rest_token 𝒱₀ ER (sched m ρ) (c : Thread nD τ) none (κ := K (c, none)) (sm := csem none)
      (wpE_semWait_eq 𝒱₀ (c : Thread nD τ) none Set.univ) (Set.mem_univ _) () (O := owed c 0) (W := W) (R := 0) (m := 0) (T := ∅)
      (by rw [expect_bar]; decide)) $$ [HcB HO HaB]
  · isplitr; · iapply (records_inv m ρ K c none); iexact HR
    isplitl [HcB]; · iexact HcB
    isplitl [HO]; · iexact HO
    isplitr; · iapply (mayWait_owed c none 0 (by decide)); iexact Hlev
    iexact HaB
  iintro ⟨HO, HaB, -, Hpay⟩
  ihave Hp := (Entails.of_eq (rest_bar m ρ c)) $$ Hpay
  unfold barPay
  icases Hp with ⟨-, %fn, Hn1, Hn2, Hn3⟩
  imod (Rounds.cell_close ER (sched m ρ) (Set.mem_univ (K (c, none))) (fun h => h) (R := 0 + 1) (sched_later m ρ (cell c none))) $$ [HaB] with HzB
  · isplitr; · iapply (records_inv m ρ K c none); iexact HR
    iexact HaB
  -- the operands
  iapply (wp_load 𝒱₀ (c : Thread nD τ) none Set.univ (m := Memref.whole cc0_stg0_0) (Finset.subset_univ _)) $$ Hx; iintro Hx
  rw [read_x]
  iapply (wp_load 𝒱₀ (c : Thread nD τ) none Set.univ (m := Memref.whole cc0_stg1_0) (Finset.subset_univ _)) $$ Hq; iintro Hq
  rw [read_wq]
  iapply (wp_load 𝒱₀ (c : Thread nD τ) none Set.univ (m := Memref.whole cc0_stg2_0) (Finset.subset_univ _)) $$ Hk; iintro Hk
  rw [read_wk]
  iapply (wp_load 𝒱₀ (c : Thread nD τ) none Set.univ (m := Memref.whole cc0_stg3_0) (Finset.subset_univ _)) $$ Hv; iintro Hv
  rw [read_wv]
  -- the sixteen blocks of the attention result
  ihave Ha := (attnPts_none m ρ c fa) $$ Ha
  iapply (wp_block m ρ c 0 0 (by decide) rfl rfl 0 1 rfl rfl) $$ Ha; iintro Ha
  iapply (wp_block m ρ c 0 1 (by decide) rfl rfl 1 2 rfl rfl) $$ Ha; iintro Ha
  iapply (wp_block m ρ c 0 2 (by decide) rfl rfl 2 3 rfl rfl) $$ Ha; iintro Ha
  iapply (wp_block m ρ c 0 3 (by decide) rfl rfl 3 4 rfl rfl) $$ Ha; iintro Ha
  iapply (wp_block m ρ c 0 4 (by decide) rfl rfl 4 5 rfl rfl) $$ Ha; iintro Ha
  iapply (wp_block m ρ c 0 5 (by decide) rfl rfl 5 6 rfl rfl) $$ Ha; iintro Ha
  iapply (wp_block m ρ c 0 6 (by decide) rfl rfl 6 7 rfl rfl) $$ Ha; iintro Ha
  iapply (wp_block m ρ c 0 7 (by decide) rfl rfl 7 8 rfl rfl) $$ Ha; iintro Ha
  iapply (wp_block m ρ c 1 0 (by decide) rfl rfl 8 9 rfl rfl) $$ Ha; iintro Ha
  iapply (wp_block m ρ c 1 1 (by decide) rfl rfl 9 10 rfl rfl) $$ Ha; iintro Ha
  iapply (wp_block m ρ c 1 2 (by decide) rfl rfl 10 11 rfl rfl) $$ Ha; iintro Ha
  iapply (wp_block m ρ c 1 3 (by decide) rfl rfl 11 12 rfl rfl) $$ Ha; iintro Ha
  iapply (wp_block m ρ c 1 4 (by decide) rfl rfl 12 13 rfl rfl) $$ Ha; iintro Ha
  iapply (wp_block m ρ c 1 5 (by decide) rfl rfl 13 14 rfl rfl) $$ Ha; iintro Ha
  iapply (wp_block m ρ c 1 6 (by decide) rfl rfl 14 15 rfl rfl) $$ Ha; iintro Ha
  iapply (wp_block m ρ c 1 7 (by decide) rfl rfl 15 16 rfl rfl) $$ Ha; iintro Ha
  ihave Ha := (attnPts_all m ρ c) $$ Ha
  -- its part, into slot 0
  iapply (wp_load 𝒱₀ (c : Thread nD τ) none Set.univ (m := attnM) (Finset.subset_univ _)) $$ Ha; iintro Ha
  rw [read_attn]
  iapply (wp_load 𝒱₀ (c : Thread nD τ) none Set.univ (m := Memref.whole cc0_stg4_0) (Finset.subset_univ _)) $$ Hwo; iintro Hwo
  rw [read_wo]
  iapply (wp_slot_load c 0 fc) $$ Hs0; iintro Hs0
  iapply (wp_slot_store m ρ c fc rfl) $$ Hs0; iintro Hs0
  iapply (wp_slot_load c 0 (commBuf m ρ c)) $$ Hs0; iintro Hs0
  rw [read_slot]
  -- the three hops, each with the load of the slot it filled
  iapply (wp_hop m ρ K c _ (dev3_eq c) 0 fn _ 0 1 rfl rfl 0 1 rfl rfl) $$ [Hs0 Hn1 HO HG0 Hc0]
  · isplitr; · iexact HR
    isplitr; · iexact Hlev
    isplitl [Hs0]; · iexact Hs0
    isplitl [Hn1]; · iexact Hn1
    isplitl [HO]; · iexact HO
    isplitl [HG0]; · iexact HG0
    iexact Hc0
  iintro ⟨⟨%W1, HO⟩, Hz0, Hs0, Hs1⟩
  iapply (wp_slot_load c 1 (commBuf m ρ c)) $$ Hs1; iintro Hs1
  rw [read_slot]
  iapply (wp_hop m ρ K c _ (dev4_eq c) 1 fn W1 1 2 rfl rfl 1 2 rfl rfl) $$ [Hs1 Hn2 HO HG1 Hc1]
  · isplitr; · iexact HR
    isplitr; · iexact Hlev
    isplitl [Hs1]; · iexact Hs1
    isplitl [Hn2]; · iexact Hn2
    isplitl [HO]; · iexact HO
    isplitl [HG1]; · iexact HG1
    iexact Hc1
  iintro ⟨⟨%W2, HO⟩, Hz1, Hs1, Hs2⟩
  iapply (wp_slot_load c 2 (commBuf m ρ c)) $$ Hs2; iintro Hs2
  rw [read_slot]
  iapply (wp_hop m ρ K c _ (dev5_eq c) 2 fn W2 2 3 rfl rfl 2 3 rfl rfl) $$ [Hs2 Hn3 HO HG2 Hc2]
  · isplitr; · iexact HR
    isplitr; · iexact Hlev
    isplitl [Hs2]; · iexact Hs2
    isplitl [Hn3]; · iexact Hn3
    isplitl [HO]; · iexact HO
    isplitl [HG2]; · iexact HG2
    iexact Hc2
  iintro ⟨⟨%W3, HO⟩, Hz2, Hs2, Hs3⟩
  iapply (wp_slot_load c 3 (commBuf m ρ c)) $$ Hs3; iintro Hs3
  rw [read_slot]
  -- the result
  iapply (wp_load 𝒱₀ (c : Thread nD τ) none Set.univ (m := Memref.whole cc0_stg5_0) (Finset.subset_univ _)) $$ Hout; iintro Hout
  iapply (wp_store 𝒱₀ (c : Thread nD τ) none Set.univ (m := Memref.whole cc0_stg5_0) (r := rX) (Mk := Finset.univ) (Finset.subset_univ _)) $$ Hout; iintro Hout
  rw [write_out, wp_ret]; imodintro
  iapply Hend
  unfold bodyPost Φ₁ Dat.owesAt Pipeline.owesWithin
  rw [show (dats m ρ 0 c).owed t₀.succ = 0 from rfl, sep_fin3]
  isplitl [Ha Hs0 Hs1 Hs2 Hs3 HzB Hz0 Hz1 Hz2]
  · isplitl [Ha]; · iexact Ha
    isplitl [Hs0 Hs1 Hs2 Hs3]
    · iapply (Entails.of_eq (comm_split c (commBuf m ρ c)).symm)
      isplitl [Hs0]; · iexact Hs0
      isplitl [Hs1]; · iexact Hs1
      isplitl [Hs2]; · iexact Hs2
      iexact Hs3
    isplitl [HzB]; · iexact HzB
    isplitl [Hz0]; · iexact Hz0
    isplitl [Hz1]; · iexact Hz1
    iexact Hz2
  isplitl [HO]
  · iexists W3
    isplitr; · ipureintro; exact fun _ _ => Or.inl trivial
    iexact HO
  isplitl [Hx]
  · iexists _; isplitr; · (ipureintro; rfl)
    iexact Hx
  isplitl [Hq]
  · iexists _; isplitr; · (ipureintro; rfl)
    iexact Hq
  isplitl [Hk]
  · iexists _; isplitr; · (ipureintro; rfl)
    iexact Hk
  isplitl [Hv]
  · iexists _; isplitr; · (ipureintro; rfl)
    iexact Hv
  isplitl [Hwo]
  · iexists _; isplitr; · (ipureintro; rfl)
    iexact Hwo
  iexists _
  isplitr [Hout]
  · ipureintro; rfl
  iexact Hout

set_option maxRecDepth 4000 in
/-- The pipeline's obligation on the kernel. -/
theorem body_obligation (c : Dev nD) : BodyObligation (dats (F := F) m ρ 0 c) (defs₀ (F := F)) 𝒱₀ () Set.univ := fun t => by
  rw [show t = t₀ from fin_N0 t]
  rw [show ∀ Ψ : Fin cfg0.W → sProp 𝕄, bigSep Finset.univ Ψ
      = iprop(Ψ (0 : Fin 6) ∗ Ψ (1 : Fin 6) ∗ Ψ (2 : Fin 6) ∗ Ψ (3 : Fin 6) ∗ Ψ (4 : Fin 6) ∗ Ψ (5 : Fin 6)) from fun Ψ => bigSep_W0 Ψ,
    show ∀ Ψ : Fin cfg0.W → sProp 𝕄, bigSep Finset.univ Ψ
      = iprop(Ψ (0 : Fin 6) ∗ Ψ (1 : Fin 6) ∗ Ψ (2 : Fin 6) ∗ Ψ (3 : Fin 6) ∗ Ψ (4 : Fin 6) ∗ Ψ (5 : Fin 6)) from fun Ψ => bigSep_W0 Ψ]
  simp only [owns_stage]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _)
            cc0_scratch2 cc0_scratch3) (fun _ => bodyPost m ρ c)
  iintro H
  iapply (sound_body m ρ c fun _ => bodyPost m ρ c)
  isplitl [H]; · iexact H
  iintro H; iexact H

end Cert.KernelIdeal.Run

end
-- ==== Proof.KernelIdeal.Launch.lean ====
/- The run: what the four devices start with, dealt out of what the launch gives, and the contents of every array and
   counter at the end. -/
module

public import proofs.«01_k».proof.Proof.KernelIdeal.Body
public import Idealize.ShloMosaic.Lib.Pipeline.CollectiveSegs

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Conjunctions over the cells -/

omit [FloatOps F] in
theorem sep_option {X : Type} [Fintype X] [DecidableEq X] (Φ : Option X → sProp 𝕄) :
    bigSep Finset.univ Φ = iprop(Φ none ∗ bigSep Finset.univ fun x => Φ (some x)) := by
  have e : (Finset.univ : Finset (Option X)).erase none = Finset.univ.map Function.Embedding.some := by
    ext x; cases x <;> simp
  rw [bigSep_univ_at Φ none, e, Idealize.SL.BI.bigSep_map]; rfl

omit [FloatOps F] in
theorem sep_hops (Φ : Bool × Fin 3 → sProp 𝕄) :
    bigSep Finset.univ Φ = bigSep Finset.univ fun h : Fin 3 => iprop(Φ (false, h) ∗ Φ (true, h)) := by
  rw [bigSep_univ_prod, bigSep_univ_eq_bigSepL [false, true] (by decide) (by decide), bigSepL_cons_cons, bigSepL_singleton,
    bigSep_sep']
  rfl

omit [FloatOps F] in
/-- A fact that may be used again and again, for every index. -/
theorem sep_always {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']
  exact bigSep_mono h

/-! ## The launch's ghost state -/

theorem ownSemFacts : Pipeline.OwnSemFacts cfg0.spec osem := by decide

theorem share_eq (c : Dev nD) (w : Fin cfg0.W) : (dats m ρ 0 c).share w = fullShare := by unfold Dat.share; split <;> rfl

abbrev cellAt (ck : Dev nD × Kind) : GSem nD τ sig := cell ck.1 ck.2

theorem cellAt_injective : Function.Injective cellAt := fun a b h =>
  Prod.ext (congrArg (fun g : GSem nD τ sig => g.1.1) h) (csem_injective (congrArg Prod.snd h))

def allCells : Finset (GSem nD τ sig) := Finset.univ.map ⟨cellAt, cellAt_injective⟩

/-- The duty tokens: each cell's `false`, and the barrier's `true`. -/
abbrev tokKind : Option Kind → Kind × Bool
  | none => (none, true)
  | some k => (k, false)

theorem tokKind_injective : Function.Injective tokKind := by decide

abbrev tokAt (cj : Dev nD × Option Kind) : GSem nD τ sig × ℕ × Bool := (cell cj.1 (tokKind cj.2).1, 0, (tokKind cj.2).2)

theorem tokAt_injective : Function.Injective tokAt := fun a b h =>
  Prod.ext (congrArg (fun x : GSem nD τ sig × ℕ × Bool => x.1.1.1) h)
    (tokKind_injective (Prod.ext (csem_injective (congrArg (fun x : GSem nD τ sig × ℕ × Bool => x.1.2) h))
      (congrArg (fun x : GSem nD τ sig × ℕ × Bool => x.2.2) h)))

def allToks : Finset (GSem nD τ sig × ℕ × Bool) := Finset.univ.map ⟨tokAt, tokAt_injective⟩

def u₀ : UU :=
  (initOf (Pipeline.cells cfgs cellOf_inj) (Pipeline.launchToks cfgs cellOf_inj), initOf allCells allToks)

/-- The tokens of device `c`'s own cells. -/
def toks (c : Dev nD) : sProp 𝕄 :=
  iprop(dutyTok ER (cell c none) 0 true ∗ dutyTok ER (cell c none) 0 false
    ∗ bigSep Finset.univ fun h : Fin 3 => iprop(dutyTok ER (cell c (some (false, h))) 0 false ∗ dutyTok ER (cell c (some (true, h))) 0 false))

/-- What device `c` is dealt first, -/
def G (c : Dev nD) : sProp 𝕄 :=
  iprop((bigSep Finset.univ fun k : Kind => roundState ER (sched m ρ) (cell c k) 0)
    ∗ (bigSep Finset.univ fun k : Kind => iprop(atPos ER (cell c k) 0 ∅ 0 ∗ reached ER (cell c k) 0)) ∗ toks c)

/-- and what the devices together make of it. -/
def G' (c : Dev nD) : sProp 𝕄 := iprop(∃ K, ghost m ρ K c)

theorem fund_cells : BI.own (ER (initOf allCells allToks)) ⊢ (|==> bigSep Finset.univ (G m ρ) : sProp 𝕄) := by
  have hX (Φ : GSem nD τ sig → sProp 𝕄) :
      bigSep allCells Φ = bigSep Finset.univ fun c : Dev nD => bigSep Finset.univ fun k : Kind => Φ (cell c k) := by
    unfold allCells; rw [Idealize.SL.BI.bigSep_map, bigSep_univ_prod]; rfl
  have hT : bigSep allToks (fun x => (dutyTok ER x.1 x.2.1 x.2.2 : sProp 𝕄)) = bigSep Finset.univ fun c : Dev nD => toks c := by
    unfold allToks; rw [Idealize.SL.BI.bigSep_map, bigSep_univ_prod]
    exact bigSep_congr fun c _ => by unfold toks; rw [sep_option, sep_option, sep_hops]; rfl
  iintro HX
  imod (Rounds.fund ER (sched m ρ) allCells allToks) $$ HX with ⟨Hst, Hr, Hat, Htok⟩
  imodintro
  ihave Hst := (Entails.of_eq (hX fun g => roundState ER (sched m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat]; · iexact Hat
    iexact Hr
  iexact Htok

/-! ## The counters -/

omit [FloatOps F] in
theorem unscoped_eq (c : Dev nD) : (unscopedSems0 c : sProp 𝕄) = semVal (cell c none) 0 := by
  unfold unscopedSems0; rw [bigSep_eq_bigSepL_of_eq [SemLoc.reg barS] (by decide) (by decide)]; rfl

omit [FloatOps F] in
theorem own_eq (c : Dev nD) : (Pipeline.ownSems0 (Ix := Unit) (Name := ℕ) (U := UU) (Lvl := ℕ) (Val := Elt F) (τ := τ) osem c : sProp 𝕄)
    = bigSep Finset.univ fun k : Bool × Fin 3 => semVal (cell c (some k)) 0 := rfl

omit [FloatOps F] in
theorem counters (c : Dev nD) :
    iprop(Pipeline.ownSems0 (Ix := Unit) (Name := ℕ) (U := UU) (Lvl := ℕ) (Val := Elt F) (τ := τ) osem c ∗ unscopedSems0 c)
      ⊢ (bigSep Finset.univ fun k : Kind => semVal (cell c k) 0 : sProp 𝕄) := by
  rw [own_eq, unscoped_eq, sep_option]
  iintro ⟨H, HB⟩
  isplitl [HB]; · iexact HB
  iexact H

/-! ## Dealing it out -/

theorem open_cells (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Kind => iprop(∃ κ : ℕ, cellInv ER (sched m ρ) κ (cell c k)))
          ∗ (bigSep Finset.univ fun k : Kind => iprop(atPos ER (cell c k) 0 ∅ 0 ∗ reached ER (cell c k) 0)) ∗ toks c) := by
  have hopen : iprop((bigSep Finset.univ fun k : Kind => semVal (cell c k) 0) ∗ bigSep Finset.univ fun k : Kind => roundState ER (sched m ρ) (cell c k) 0)
      ⊢ (|={Set.univ}=> bigSep Finset.univ fun k : Kind => iprop(∃ κ : ℕ, cellInv ER (sched m ρ) κ (cell c k)) : sProp 𝕄) := by
    rw [← bigSep_sep']
    exact (bigSep_mono fun k _ => (Rounds.body_intro ER (sched m ρ) (cell c k)).trans inv_alloc).trans (bigSep_fupd _ _)
  unfold G
  iintro ⟨Hos, Hus, Hst, Hat, Htok⟩
  ihave Hv := (counters (F := F) c) $$ [Hos Hus]
  · isplitl [Hos]; · iexact Hos
    iexact Hus
  imod hopen $$ [Hv Hst] with Hinv
  · isplitl [Hv]; · iexact Hv
    iexact Hst
  imodintro
  isplitl [Hinv]; · iexact Hinv
  isplitl [Hat]; · iexact Hat
  iexact Htok

/-- What device `c` pays with. -/
def payToks (c : Dev nD) : sProp 𝕄 :=
  iprop(dutyTok ER (cell (prv c) none) 0 true ∗ dutyTok ER (cell (nxt c) none) 0 false
    ∗ bigSep Finset.univ fun h : Fin 3 => iprop(dutyTok ER (cell c (some (false, h))) 0 false ∗ dutyTok ER (cell (nxt c) (some (true, h))) 0 false))

omit [FloatOps F] in
/-- A conjunction over devices and hops, read one device further on. -/
theorem sep_next (Φ : Dev nD → sProp 𝕄) : (bigSep Finset.univ fun c => Φ c) = bigSep Finset.univ fun c => Φ (nxt c) :=
  bigSep_univ_equiv ring Φ

omit [FloatOps F] in
/-- The tokens go to the devices that pay the duties. -/
theorem toks_dealt : (bigSep Finset.univ fun c : Dev nD => (toks c : sProp 𝕄)) = bigSep Finset.univ fun c : Dev nD => payToks c := by
  unfold toks payToks
  simp only [bigSep_sep']
  rw [bigSep_univ_equiv ring.symm (fun c : Dev nD => (dutyTok ER (cell c none) 0 true : sProp 𝕄)),
    sep_next (fun c : Dev nD => (dutyTok ER (cell c none) 0 false : sProp 𝕄)),
    sep_next (fun c : Dev nD => (bigSep Finset.univ fun h : Fin 3 => dutyTok ER (cell c (some (true, h))) 0 false : sProp 𝕄))]
  rfl

/-- What stays with device `c`: its positions, and what it pays with. -/
def keeps (c : Dev nD) : sProp 𝕄 := iprop((bigSep Finset.univ fun k : Kind => atPos ER (cell c k) 0 ∅ 0) ∗ payToks c)

theorem ghost_intro (K : Dev nD × Kind → ℕ) (c : Dev nD) : iprop(records m ρ K ∗ keeps c) ⊢ G' m ρ c := by
  unfold keeps payToks G' ghost hopGhost
  rw [sep_option, sep_hops]
  simp only [bigSep_sep']
  iintro ⟨HR, ⟨HaB, HaS, HaV⟩, HtP, HtN, HtS, HtV⟩
  iexists K
  isplitl [HR]; · iexact HR
  isplitl [HaB HtP HtN]
  · isplitl [HaB]; · iexact HaB
    isplitl [HtN]; · iexact HtN
    iexact HtP
  isplitl [HaS]; · iexact HaS
  isplitl [HaV]; · iexact HaV
  isplitl [HtS]; · iexact HtS
  iexact HtV

theorem regroup :
    (bigSep Finset.univ fun c : Dev nD => iprop((bigSep Finset.univ fun k : Kind => iprop(∃ κ : ℕ, cellInv ER (sched m ρ) κ (cell c k)))
          ∗ (bigSep Finset.univ fun k : Kind => iprop(atPos ER (cell c k) 0 ∅ 0 ∗ reached ER (cell c k) 0)) ∗ toks c) : sProp 𝕄)
      ⊢ bigSep Finset.univ (G' m ρ) := by
  simp only [bigSep_sep']
  rw [← bigSep_univ_prod (fun ck : Dev nD × Kind => iprop(∃ κ : ℕ, cellInv ER (sched m ρ) κ (cell ck.1 ck.2))),
    ← bigSep_univ_prod (fun ck : Dev nD × Kind => (reached ER (cell ck.1 ck.2) 0 : sProp 𝕄)), toks_dealt]
  iintro ⟨HI, ⟨Hat, #HR⟩, Htok⟩
  ihave HK := (BI.bigSep_exists_pi Finset.univ (fun (ck : Dev nD × Kind) (κ : ℕ) => (cellInv ER (sched m ρ) κ (cell ck.1 ck.2) : sProp 𝕄))) $$ HI
  icases HK with ⟨%K, #HI⟩
  iapply (sep_always (R := records m ρ K) fun c _ => ghost_intro m ρ K c)
  isplitr
  · unfold records; isplitl; · iexact HI
    iexact HR
  unfold keeps
  simp only [bigSep_sep']
  isplitl [Hat]; · iexact Hat
  iexact Htok

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => open_cells m ρ c).trans (bigSep_fupd _ _)).trans (BI.fupd_mono (regroup m ρ))

/-! ## The credits -/

omit [FloatOps F] in
/-- What the devices owe in all is what each may spend: a unit from each neighbour on its barrier, a copy's credit on each
    of its receive cells. -/
theorem creds (c : Dev nD) :
    (Pipeline.launchCred owed₀ c : sProp 𝕄)
      ⊢ iprop(cred (tallyAt (cell c none) () 2) ∗ bigSep Finset.univ fun h : Fin 3 => cred (tallyAt (cell c (some (true, h))) () N)) := by
  have hop : ∀ h : Fin 3, (Pipeline.launchCred (fun d => due d h) c : sProp 𝕄) ⊢ cred (tallyAt (cell c (some (true, h))) () N) :=
    fun h => Pipeline.launchCred_tallyAt (osem (true, h)) nxt prv nxt_prv prv_nxt () N c
  have hn : (Pipeline.launchCred (fun d => tallyAt (cell (nxt d) none) () 1) c : sProp 𝕄) ⊢ cred (tallyAt (cell c none) () 1) :=
    Pipeline.launchCred_tallyAt (.reg barS) nxt prv nxt_prv prv_nxt () 1 c
  have hp : (Pipeline.launchCred (fun d => tallyAt (cell (prv d) none) () 1) c : sProp 𝕄) ⊢ cred (tallyAt (cell c none) () 1) :=
    Pipeline.launchCred_tallyAt (.reg barS) prv nxt prv_nxt nxt_prv () 1 c
  have e : (Pipeline.launchCred owed₀ c : sProp 𝕄)
      = Pipeline.launchCred (fun d => 0 + due d 2 + due d 1 + due d 0 + tallyAt (cell (nxt d) none) () 1 + tallyAt (cell (prv d) none) () 1) c := rfl
  rw [e, Pipeline.launchCred_add, Pipeline.launchCred_add, Pipeline.launchCred_add, Pipeline.launchCred_add, Pipeline.launchCred_add,
    sep_fin3, ← tallyAt_add (cell c none) () 1 1]
  iintro ⟨⟨⟨⟨⟨-, H2⟩, H1⟩, H0⟩, HN⟩, HP⟩
  isplitl [HN HP]
  · iapply (cred_add _ _).2
    isplitl [HN]; · iapply hn; iexact HN
    iapply hp; iexact HP
  isplitl [H0]; · iapply (hop 0); iexact H0
  isplitl [H1]; · iapply (hop 1); iexact H1
  iapply (hop 2); iexact H2

/-! ## The run -/

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨HB, HN⟩
  imodintro
  unfold start G'
  isplitl
  · isplitl [HG]; · iexact HG
    isplitl [HB]; · iexact HB
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, own_eq, unscoped_eq, sep_hops]
  unfold Φ₁
  iintro ⟨Ha, Hc, HzB, Hz⟩
  isplitl [HzB]; · iexact HzB
  isplitl [Hz]; · iexact Hz
  isplitl [Ha]; · iexists _; iexact Ha
  iexists _; iexact Hc

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What the run leaves in the array of window `w` on device `c`. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, whatever the float values: the four devices' program terminates, and at the end
    every array is as computed and every counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owed₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An operand's array holds what it held. -/
theorem finalA_in (c : Dev nD) (w : Fin cfg0.W) (hw : (cfg0.win w).isOut = false) :
    finalA m ρ c w = (s₀ m ρ).mem ((cfg0.win w).arr.view.loc (c : Thread nD τ)) :=
  (dats (F := F) m ρ 0 c).arrAt_in w hw _

/-- Every operand's array holds what it held, on every device. -/
theorem args_kept {r : PUnit × MemSt nD τ sig (Elt F)} (h : QC m ρ r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  ⟨(h c (0 : Fin 6)).trans (finalA_in m ρ c (0 : Fin 6) rfl), (h c (1 : Fin 6)).trans (finalA_in m ρ c (1 : Fin 6) rfl),
    (h c (2 : Fin 6)).trans (finalA_in m ρ c (2 : Fin 6) rfl), (h c (3 : Fin 6)).trans (finalA_in m ρ c (3 : Fin 6) rfl),
    (h c (4 : Fin 6)).trans (finalA_in m ρ c (4 : Fin 6) rfl)⟩

/-- The run with the values dropped. -/
theorem run_frame : θ_run defs (onTc (τ := τ) (main (F := F))) (s₀ m ρ) (fun r => (∀ c : Dev nD,
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs (onTc (τ := τ) (main (F := F))) (s₀ m ρ)).mono (fun r h => ⟨fun c => args_kept m ρ h.1 c, h.2⟩) (run_main m ρ)

end Cert.KernelIdeal.Run

end
-- ==== Proof.Value.Softmax.lean ====
/- One row of attention over the extended reals, in the two orders in which it can be computed.

   The kernel divides each exponential by their sum and then weighs the values (`weighFirst`); the reference weighs the
   values by the exponentials, adds that to what it had before its only step, which is zero, and divides at the end
   (`divideLast`). On finite scores the two are one number, whatever the values are (`divideLast_eq`). -/
module

public import Idealize.ShloMosaic.PureOps.Ideal.Laws

@[expose] public section

noncomputable section

namespace Cert.Attention

open Idealize.ShloMosaic

variable {ι : Type} [Fintype ι]

/-- The word of −∞, at which maxima begin. -/
abbrev low : EReal := Ideal.ofBits .f32 0xFF800000#32

theorem low_eq : low = ⊥ := by simp [low, Ideal.ofBits, Ideal.ieee]

/-- The greatest of the scores. -/
def top (s : ι → EReal) : EReal := Finset.univ.fold max low s

/-- A row with its weights divided first. -/
def weighFirst (s v : ι → EReal) : EReal :=
  ∑ j, Ideal.div (Ideal.exp (s j - top s)) (∑ k, Ideal.exp (s k - top s)) * v j

/-- A row divided last, with the step's decay of an empty beginning. -/
def divideLast (s v : ι → EReal) : EReal :=
  Ideal.div (0 * Ideal.exp (low - max low (top s)) + ∑ j, v j * Ideal.exp (s j - max low (top s)))
    (0 * Ideal.exp (low - max low (top s)) + ∑ k, Ideal.exp (s k - max low (top s)))

/-- A number that is neither infinity. -/
def Finite (x : EReal) : Prop := x ≠ ⊥ ∧ x ≠ ⊤

theorem finite_coe (r : ℝ) : Finite (r : EReal) := ⟨EReal.coe_ne_bot r, EReal.coe_ne_top r⟩

theorem Finite.real {x : EReal} (h : Finite x) : ∃ r : ℝ, x = r := ⟨x.toReal, (EReal.coe_toReal h.2 h.1).symm⟩

theorem Finite.mul {x y : EReal} (hx : Finite x) (hy : Finite y) : Finite (x * y) := by
  obtain ⟨a, rfl⟩ := hx.real
  obtain ⟨b, rfl⟩ := hy.real
  rw [← EReal.coe_mul]; exact finite_coe _

theorem real_sum (f : ι → ℝ) : ∑ j, (f j : EReal) = ((∑ j, f j : ℝ) : EReal) :=
  (map_sum (⟨⟨Real.toEReal, EReal.coe_zero⟩, EReal.coe_add⟩ : ℝ →+ EReal) f Finset.univ).symm

theorem Finite.sum {f : ι → EReal} (h : ∀ j, Finite (f j)) : Finite (∑ j, f j) := by
  choose g hg using fun j => (h j).real
  rw [show f = fun j => (g j : EReal) from funext hg, real_sum]
  exact finite_coe _

/-- The greatest of finitely many finite scores, at least one, is finite. -/
theorem top_finite [Nonempty ι] {s : ι → EReal} (h : ∀ j, Finite (s j)) : Finite (top s) := by
  obtain ⟨i⟩ := ‹Nonempty ι›
  constructor
  · exact (bot_lt_iff_ne_bot.mp ((Finset.lt_fold_max _).mpr (.inr ⟨i, Finset.mem_univ i, bot_lt_iff_ne_bot.mpr (h i).1⟩)))
  · exact (lt_top_iff_ne_top.mp ((Finset.fold_max_lt _).mpr
      ⟨by rw [low_eq]; exact bot_lt_top, fun j _ => lt_top_iff_ne_top.mpr (h j).2⟩))

/-- A sum times a real number that isn't negative, term by term. -/
theorem sum_mul_real (f : ι → EReal) {r : ℝ} (hr : 0 ≤ r) : (∑ j, f j) * (r : EReal) = ∑ j, f j * (r : EReal) := by
  classical
  induction (Finset.univ : Finset ι) using Finset.induction_on with
  | empty => simp
  | insert a t ha ih =>
    rw [Finset.sum_insert ha, Finset.sum_insert ha,
      EReal.right_distrib_of_nonneg_of_ne_top (EReal.coe_nonneg.mpr hr) (EReal.coe_ne_top r), ih]

/-- On finite scores both orders give the same number. -/
theorem divideLast_eq [Nonempty ι] {s : ι → EReal} (h : ∀ j, Finite (s j)) (v : ι → EReal) :
    divideLast s v = weighFirst s v := by
  obtain ⟨M, hM⟩ := (top_finite h).real
  choose t ht using fun j => (h j).real
  have he : ∀ j, Ideal.exp (s j - (M : EReal)) = (Real.exp (t j - M) : ℝ) := fun j => by
    rw [ht, ← EReal.coe_sub, Ideal.exp_coe]
  have hL : 0 < ∑ j, Real.exp (t j - M) := Finset.sum_pos (fun j _ => Real.exp_pos _) Finset.univ_nonempty
  have hne : ((∑ j, Real.exp (t j - M) : ℝ) : EReal) ≠ 0 := EReal.coe_ne_zero.mpr hL.ne'
  unfold divideLast weighFirst
  rw [low_eq, max_eq_right bot_le, hM]
  simp only [he, zero_mul, zero_add, real_sum, Ideal.div, if_neg hne, ← EReal.coe_inv]
  rw [sum_mul_real _ (inv_nonneg.mpr hL.le)]
  exact Finset.sum_congr rfl fun j _ => by rw [mul_comm (v j), mul_right_comm]

end Cert.Attention

end
-- ==== Proof.Value.Inputs.lean ====
/- What the precondition says of an array: every number in it is finite. -/
module

public import proofs.«01_k».proof.Defs
public import proofs.«01_k».proof.Proof.Value.Softmax

@[expose] public section

noncomputable section

namespace Cert.Attention

open Idealize.ShloMosaic

/-- The word of +∞. -/
theorem high_eq : Ideal.ofBits .f32 0x7F800000#32 = ⊤ := by simp [Ideal.ofBits, Ideal.ieee]

/-- A number whose absolute value is below +∞ is finite. -/
theorem finite_of_abs {x : EReal} (h : max x (-x) < ⊤) : Finite x :=
  ⟨fun e => by simp [e] at h, fun e => by simp [e] at h⟩

/-- An array that compares so everywhere is finite everywhere. -/
theorem finite_of_compare {S : Shape} (hS : (⟨0, ![]⟩ : Shape).BroadcastsInDim S (![] : Fin 0 → Fin S.rank)) (x : FVec Ideal S .f32)
    (h : cmpf .olt (Host.absf x) (broadcastInDim S ![] hS (constant (F := Ideal) ⟨0, ![]⟩ .f32 0x7F800000#32)) = fun _ => 1#1) (i : S.Idx) :
    Finite (x i) := by
  have e : Ideal.cmp .olt (max (x i) (-(x i))) (Ideal.ofBits .f32 0x7F800000#32) = 1#1 := congrFun h i
  rw [high_eq] at e
  refine finite_of_abs ?_
  by_contra hn
  simp [Ideal.cmp, hn] at e

end Cert.Attention

end
-- ==== Proof.Value.Arrays.lean ====
/- What the kernel's run leaves in memory, as plain arrays: each window's one block is its whole array. -/
module

public import proofs.«01_k».proof.Proof.KernelIdeal.Launch

@[expose] public section

noncomputable section

namespace Cert.KernelIdeal.Run

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-! Each operand, as staged, is the device's argument array. -/

theorem xAt_eq : xAt m ρ c = m ((c : Thread nD τ).loc main_arg0) :=
  Memref.read_access_unit_zero (Elt F) main_arg0 (funext fun a => by fin_cases a <;> decide) (fun a => by fin_cases a <;> decide) _

theorem wqAt_eq : wqAt m ρ c = m ((c : Thread nD τ).loc main_arg1) :=
  Memref.read_access_unit_zero (Elt F) main_arg1 (funext fun a => by fin_cases a <;> decide) (fun a => by fin_cases a <;> decide) _

theorem wkAt_eq : wkAt m ρ c = m ((c : Thread nD τ).loc main_arg2) :=
  Memref.read_access_unit_zero (Elt F) main_arg2 (funext fun a => by fin_cases a <;> decide) (fun a => by fin_cases a <;> decide) _

theorem wvAt_eq : wvAt m ρ c = m ((c : Thread nD τ).loc main_arg3) :=
  Memref.read_access_unit_zero (Elt F) main_arg3 (funext fun a => by fin_cases a <;> decide) (fun a => by fin_cases a <;> decide) _

theorem woAt_eq : woAt m ρ c = m ((c : Thread nD τ).loc main_arg4) :=
  Memref.read_access_unit_zero (Elt F) main_arg4 (funext fun a => by fin_cases a <;> decide) (fun a => by fin_cases a <;> decide) _

/-- The result array ends as the body left its block. -/
theorem result_eq : finalA m ρ c (5 : Fin 6) = outAt m ρ c := by
  have h := (dats m ρ 0 c).arrAt_succ (5 : Fin 6) t₀
  rw [if_pos (flush0_5 t₀)] at h
  have hz : (fun a => (win0_5.index (0 : Fin 1)) a * main_v1.ty.shape.size a) = fun _ => 0 :=
    funext fun a => by fin_cases a <;> decide
  refine (Memref.read_access_unit_zero (Elt F) main_v1 hz (fun a => by fin_cases a <;> decide) (finalA m ρ c (5 : Fin 6))).symm.trans ?_
  unfold finalA
  refine (congrArg _ h).trans ?_
  exact View.read_write_univ _ _

end Cert.KernelIdeal.Run

end
-- ==== Proof.Value.Columns.lean ====
/- Attention by columns of the weights: what the whole result is made of, in a form that a device's 512 columns and the
   reference's 2048 both fit. -/
module

public import proofs.«01_k».proof.Proof.Value.Softmax
public import Idealize.ShloMosaic.Lib.Pointwise

@[expose] public section

noncomputable section

namespace Cert.Attention

open Idealize.ShloMosaic

/-- Token `i` of batch `b` times one column of a weight. -/
def proj (x : FVec Ideal ⟨3, ![2, 256, 768]⟩ .f32) (w : Fin 768 → EReal) (b : Fin 2) (i : Fin 256) : EReal :=
  ∑ k, x (ix3 b i k) * w k

/-- The scaled score of tokens `i` and `j` of a head, from the head's 64 columns of the query and of the key weights. -/
def score (x : FVec Ideal ⟨3, ![2, 256, 768]⟩ .f32) (wq wk : Fin 64 → Fin 768 → EReal) (b : Fin 2) (i j : Fin 256) : EReal :=
  (∑ d, proj x (wq d) b i * proj x (wk d) b j) * Ideal.ofBits .f32 0x3E000000#32

/-- The scale is a number. -/
theorem scale_finite : Finite (Ideal.ofBits .f32 0x3E000000#32) := by
  simp only [Ideal.ofBits, Ideal.ieee]
  norm_num
  exact (finite_coe _).mul (finite_coe _)

/-- Scores of finite arrays are finite. -/
theorem score_finite {x : FVec Ideal ⟨3, ![2, 256, 768]⟩ .f32} {wq wk : Fin 64 → Fin 768 → EReal} (hx : ∀ i, Finite (x i))
    (hq : ∀ d k, Finite (wq d k)) (hk : ∀ d k, Finite (wk d k)) (b : Fin 2) (i j : Fin 256) : Finite (score x wq wk b i j) :=
  (Finite.sum fun d => (Finite.sum fun k => (hx _).mul (hq d k)).mul (Finite.sum fun k => (hx _).mul (hk d k))).mul
    scale_finite

/-- The 64 columns of the head that holds column `n`, of a weight of `N` columns. -/
def headCols {N : ℕ} (hN : 64 ∣ N) (w : FVec Ideal ⟨2, ![768, N]⟩ .f32) (n : Fin N) (d : Fin 64) (k : Fin 768) : EReal :=
  w (ix2 k ⟨n.val / 64 * 64 + d.val, by
    obtain ⟨q, rfl⟩ := hN
    have h : n.val / 64 < q := Nat.div_lt_of_lt_mul n.isLt
    have := d.isLt
    omega⟩)

/-- Column `n` of the attention result of token `i` of batch `b`, by `row` from the scores and the values. -/
def cell (row : (Fin 256 → EReal) → (Fin 256 → EReal) → EReal) {N : ℕ} (hN : 64 ∣ N)
    (x : FVec Ideal ⟨3, ![2, 256, 768]⟩ .f32) (wq wk wv : FVec Ideal ⟨2, ![768, N]⟩ .f32) (b : Fin 2) (i : Fin 256) (n : Fin N) :
    EReal :=
  row (score x (headCols hN wq n) (headCols hN wk n) b i) (proj x (fun k => wv (ix2 k n)) b)

/-- The columns' sum, each times its row of the output weight. -/
def mixed (row : (Fin 256 → EReal) → (Fin 256 → EReal) → EReal) {N : ℕ} (hN : 64 ∣ N)
    (x : FVec Ideal ⟨3, ![2, 256, 768]⟩ .f32) (wq wk wv : FVec Ideal ⟨2, ![768, N]⟩ .f32) (wo : FVec Ideal ⟨2, ![N, 768]⟩ .f32)
    (b : Fin 2) (i : Fin 256) (e : Fin 768) : EReal :=
  ∑ n, cell row hN x wq wk wv b i n * wo (ix2 n e)

/-- On finite `x`, `wq` and `wk` it is the same whether a row is divided first or last. -/
theorem mixed_eq {N : ℕ} (hN : 64 ∣ N) {x : FVec Ideal ⟨3, ![2, 256, 768]⟩ .f32} {wq wk : FVec Ideal ⟨2, ![768, N]⟩ .f32}
    (wv : FVec Ideal ⟨2, ![768, N]⟩ .f32) (wo : FVec Ideal ⟨2, ![N, 768]⟩ .f32) (hx : ∀ i, Finite (x i)) (hq : ∀ i, Finite (wq i))
    (hk : ∀ i, Finite (wk i)) (b : Fin 2) (i : Fin 256) (e : Fin 768) :
    mixed divideLast hN x wq wk wv wo b i e = mixed weighFirst hN x wq wk wv wo b i e :=
  Finset.sum_congr rfl fun n _ => congrArg (· * wo (ix2 n e))
    (divideLast_eq (score_finite hx (fun _ _ => hq _) (fun _ _ => hk _) b i) _)

end Cert.Attention

end
-- ==== Proof.Value.Blocks.lean ====
/- Arrays dealt out to four devices: the sum of what each makes of its columns is what the whole arrays make. -/
module

public import proofs.«01_k».proof.Proof.Value.Columns
public import Idealize.ShloMosaic.Lib.Layout
public import Idealize.ShloMosaic.Lib.Pipeline.ValueKit.Acc

@[expose] public section

noncomputable section

namespace Cert.Attention

open Idealize.ShloMosaic

/-- Device `c`'s 512 columns of a weight of 2048. -/
abbrev colBlock (c : Fin 4) (w : FVec Ideal ⟨2, ![768, 2048]⟩ .f32) : FVec Ideal ⟨2, ![768, 512]⟩ .f32 :=
  Layout.block ⟨2, ![768, 512]⟩ ⟨2, ![768, 2048]⟩ 1 4 c w

/-- Device `c`'s 512 rows of a weight of 2048. -/
abbrev rowBlock (c : Fin 4) (w : FVec Ideal ⟨2, ![2048, 768]⟩ .f32) : FVec Ideal ⟨2, ![512, 768]⟩ .f32 :=
  Layout.block ⟨2, ![512, 768]⟩ ⟨2, ![2048, 768]⟩ 0 4 c w

/-- Where column `y` of device `c` lies in the whole. -/
abbrev place (c : Fin 4) (y : Fin 512) : Fin 2048 := ⟨c.val * 512 + y.val, by omega⟩

theorem colBlock_apply (c : Fin 4) (w : FVec Ideal ⟨2, ![768, 2048]⟩ .f32) (k : Fin 768) (y : Fin 512) :
    colBlock c w (ix2 k y) = w (ix2 k (place c y)) :=
  congrArg w (funext fun a => Fin.ext (match a with | 0 => rfl | 1 => rfl))

theorem rowBlock_apply (c : Fin 4) (w : FVec Ideal ⟨2, ![2048, 768]⟩ .f32) (y : Fin 512) (e : Fin 768) :
    rowBlock c w (ix2 y e) = w (ix2 (place c y) e) :=
  congrArg w (funext fun a => Fin.ext (match a with | 0 => rfl | 1 => rfl))

/-- Every column of the whole is some device's. -/
theorem place_surj (n : Fin 2048) : ∃ c y, n = place c y :=
  ⟨⟨n.val / 512, by omega⟩, ⟨n.val % 512, by omega⟩, Fin.ext (by show n.val = n.val / 512 * 512 + n.val % 512; omega)⟩

/-- A weight whose blocks are finite is finite. -/
theorem finite_of_blocks {w : FVec Ideal ⟨2, ![768, 2048]⟩ .f32} (h : ∀ c i, Finite (colBlock c w i)) (i) : Finite (w i) := by
  rw [eq_ix2 i]
  obtain ⟨c, y, hy⟩ := place_surj (i 1)
  have e : colBlock c w (ix2 (i 0) y) = w (ix2 (i 0) (i 1)) := by rw [hy]; exact colBlock_apply c w (i 0) y
  exact e ▸ h c (ix2 (i 0) y)

/-- A head of a device's block is a head of the whole. -/
theorem headCols_block (c : Fin 4) (w : FVec Ideal ⟨2, ![768, 2048]⟩ .f32) (y : Fin 512) :
    headCols (N := 512) (by decide) (colBlock c w) y = headCols (N := 2048) (by decide) w (place c y) := by
  funext d k
  unfold headCols
  rw [colBlock_apply]
  refine congrArg w (congrArg (ix2 k) (Fin.ext ?_))
  show c.val * 512 + (y.val / 64 * 64 + d.val) = (c.val * 512 + y.val) / 64 * 64 + d.val
  omega

/-- So a column of the attention result from a device's blocks is one from the whole. -/
theorem cell_block (row : (Fin 256 → EReal) → (Fin 256 → EReal) → EReal) (c : Fin 4)
    (x : FVec Ideal ⟨3, ![2, 256, 768]⟩ .f32) (wq wk wv : FVec Ideal ⟨2, ![768, 2048]⟩ .f32) (b : Fin 2) (i : Fin 256)
    (y : Fin 512) :
    cell row (N := 512) (by decide) x (colBlock c wq) (colBlock c wk) (colBlock c wv) b i y
      = cell row (N := 2048) (by decide) x wq wk wv b i (place c y) := by
  unfold cell
  rw [headCols_block, headCols_block]
  simp only [colBlock_apply]

/-- The devices' sums add up to the whole's. -/
theorem sum_mixed_blocks (row : (Fin 256 → EReal) → (Fin 256 → EReal) → EReal)
    (x : FVec Ideal ⟨3, ![2, 256, 768]⟩ .f32) (wq wk wv : FVec Ideal ⟨2, ![768, 2048]⟩ .f32)
    (wo : FVec Ideal ⟨2, ![2048, 768]⟩ .f32) (b : Fin 2) (i : Fin 256) (e : Fin 768) :
    ∑ c : Fin 4, mixed row (N := 512) (by decide) x (colBlock c wq) (colBlock c wk) (colBlock c wv) (rowBlock c wo) b i e
      = mixed row (N := 2048) (by decide) x wq wk wv wo b i e := by
  unfold mixed
  simp only [cell_block, rowBlock_apply]
  exact Fin.sum_mul_add_fin 4 512 (fun n : Fin 2048 => cell row (N := 2048) (by decide) x wq wk wv b i n * wo (ix2 n e))

end Cert.Attention

end
-- ==== Proof.Value.Kernel.lean ====
/- What the kernel computes, at an index: each device's part is the sum over its own 512 columns, each row's weights
   divided first; its result is the four devices' parts added. -/
module

public import proofs.«01_k».proof.Proof.KernelIdeal.Body
public import proofs.«01_k».proof.Proof.Value.Columns

@[expose] public section

set_option maxRecDepth 16384

noncomputable section

namespace Cert.KernelIdeal.Value

open Cert.KernelIdeal Cert.KernelIdeal.Gen Cert.KernelIdeal.Run Cert.Attention
open Idealize.ShloMosaic Idealize.SL.Sem

/-! ## One block -/

theorem headScore_apply (o : Fin 2 → ℕ) (hs : S512x512.Slices o S256x64) (q k : FVec Ideal S512x512 .f32) (i j : Fin 256)
    (ho : o 0 + 256 ≤ 512) (ho' : o 1 + 64 ≤ 512) :
    headScore o hs q k (ix2 i j)
      = (∑ d : Fin 64, q (ix2 ⟨o 0 + i.val, by omega⟩ ⟨o 1 + d.val, by omega⟩)
          * k (ix2 ⟨o 0 + j.val, by omega⟩ ⟨o 1 + d.val, by omega⟩)) * Ideal.ofBits .f32 0x3E000000#32 := by
  pointwise [headScore]

/-- An element of the block at offset `o`: the row of its scores, weighed first. -/
theorem headVal_apply (o : Fin 2 → ℕ) (hs : S512x512.Slices o S256x64) (q k v : FVec Ideal S512x512 .f32) (i : Fin 256)
    (d : Fin 64) (ho : o 0 + 256 ≤ 512) (ho' : o 1 + 64 ≤ 512) :
    headVal o hs q k v (ix2 i d)
      = weighFirst (fun j => headScore o hs q k (ix2 i j)) (fun j => v (ix2 ⟨o 0 + j.val, by omega⟩ ⟨o 1 + d.val, by omega⟩)) := by
  pointwise [headVal, softRows, expRows, alongRows]
  rfl

/-! ## The projections -/

theorem query_apply (x : FVec Ideal S2x256x768 .f32) (w : FVec Ideal S768x512 .f32) (b : Fin 2) (i : Fin 256) (n : Fin 512)
    (r : Fin 512) (hr : r.val = 256 * b.val + i.val) :
    (k0_pay3 (F := Ideal) x w (ix2 r n) = proj x (fun k => w (ix2 k n)) b i)
      ∧ (k0_pay4 (F := Ideal) x w (ix2 r n) = proj x (fun k => w (ix2 k n)) b i)
      ∧ (k0_pay5 (F := Ideal) x w (ix2 r n) = proj x (fun k => w (ix2 k n)) b i) := by
  have hb : ∀ h, (⟨r.val / 256, h⟩ : Fin 2) = b := fun _ => Fin.ext (by show r.val / 256 = b.val; omega)
  have hi : ∀ h, (⟨r.val % 256, h⟩ : Fin 256) = i := fun _ => Fin.ext (by show r.val % 256 = i.val; omega)
  unfold proj
  refine ⟨?_, ?_, ?_⟩
  · pointwise [k0_pay3, k0_pay2]; simp only [hb, hi]
  · pointwise [k0_pay4, k0_pay2]; simp only [hb, hi]
  · pointwise [k0_pay5, k0_pay2]; simp only [hb, hi]

/-! ## The array -/

/-- A device's attention result, from its `x` and its columns of the three weights. -/
theorem attn_apply (x : FVec Ideal S2x256x768 .f32) (wq wk wv : FVec Ideal S768x512 .f32) (b : Fin 2) (i : Fin 256)
    (n : Fin 512) (r : Fin 512) (hr : r.val = 256 * b.val + i.val) :
    attnVal (k0_pay3 (F := Ideal) x wq) (k0_pay4 (F := Ideal) x wk) (k0_pay5 (F := Ideal) x wv) (ix2 r n)
      = Attention.cell weighFirst (N := 512) (by decide) x wq wk wv b i n := by
  have hb : r.val / 256 = b.val := by omega
  have hi : r.val % 256 = i.val := by omega
  have o0 : blkOff (ix2 r n) 0 = 256 * b.val := congrArg (256 * ·) hb
  have o1 : blkOff (ix2 r n) 1 = 64 * (n.val / 64) := rfl
  have hidx : blkIdx (ix2 r n) = ix2 (⟨i.val, i.isLt⟩ : Fin 256) (⟨n.val % 64, Nat.mod_lt _ (by decide)⟩ : Fin 64) := by
    funext a
    match a with
    | ⟨0, _⟩ => exact Fin.ext hi
    | ⟨1, _⟩ => rfl
  show headVal (blkOff (ix2 r n)) (blkOff_slices _) _ _ _ (blkIdx (ix2 r n)) = _
  rw [hidx, headVal_apply _ _ _ _ _ _ _ (by omega) (by omega)]
  unfold Attention.cell
  congr 1
  · funext j
    rw [headScore_apply _ _ _ _ _ _ (by omega) (by omega)]
    unfold score
    refine congrArg (· * _) (Finset.sum_congr rfl fun d _ => ?_)
    rw [(query_apply x wq b i _ _ (by show _ + _ = _; rw [o0])).1, (query_apply x wk b j _ _ (by show _ + _ = _; rw [o0])).2.1]
    have hc : ∀ h : blkOff (ix2 r n) 1 + d.val < 512,
        (⟨blkOff (ix2 r n) 1 + d.val, h⟩ : Fin 512) = ⟨n.val / 64 * 64 + d.val, by omega⟩ := fun h =>
      Fin.ext (by show blkOff (ix2 r n) 1 + d.val = n.val / 64 * 64 + d.val; omega)
    rw [hc]
    rfl
  · funext j
    rw [(query_apply x wv b j _ _ (by show _ + _ = _; rw [o0])).2.2]
    have hc : ∀ h : blkOff (ix2 r n) 1 + n.val % 64 < 512, (⟨blkOff (ix2 r n) 1 + n.val % 64, h⟩ : Fin 512) = n := fun h =>
      Fin.ext (by show blkOff (ix2 r n) 1 + n.val % 64 = n.val; omega)
    rw [hc]

/-! ## A device's part, and the sum -/

variable (m : (ℓ : Loc nD τ sig) → Buf (Elt Ideal) ℓ) (ρ : Dev nD → PrngReg)

/-- Device `c`'s part: the sum over its columns. -/
theorem part_apply (c : Dev nD) (b : Fin 2) (i : Fin 256) (e : Fin 768) (r : Fin 512) (hr : r.val = 256 * b.val + i.val) :
    (part m ρ c : FVec Ideal S1x512x768 .f32) (ix3 0 r e)
      = mixed weighFirst (N := 512) (by decide) (xAt m ρ c) (wqAt m ρ c) (wkAt m ρ c) (wvAt m ρ c) (woAt m ρ c) b i e := by
  unfold part
  pointwise [k0_pay37]
  exact Finset.sum_congr rfl fun n _ => congrArg (· * _) (attn_apply _ _ _ _ b i n r hr)

/-- The result: the parts of the device and of the three before it, added. -/
theorem outAt_apply (c : Dev nD) (b : Fin 2) (i : Fin 256) (e : Fin 768) (r : Fin 512) (hr : r.val = 256 * b.val + i.val) :
    (outAt m ρ c : FVec Ideal S2x256x768 .f32) (ix3 b i e)
      = (part m ρ (back 0 c) : FVec Ideal S1x512x768 .f32) (ix3 0 r e)
        + (part m ρ (back 1 c) : FVec Ideal S1x512x768 .f32) (ix3 0 r e)
        + (part m ρ (back 2 c) : FVec Ideal S1x512x768 .f32) (ix3 0 r e)
        + (part m ρ (back 3 c) : FVec Ideal S1x512x768 .f32) (ix3 0 r e) := by
  have hr' : ∀ h, (⟨b.val * 256 + i.val, h⟩ : Fin 512) = r := fun _ => Fin.ext (by show b.val * 256 + i.val = r.val; omega)
  unfold outAt
  pointwise [k0_pay1, k0_pay38, k0_pay39, k0_pay40, k0_pay41]
  simp only [hr']

/-- Which is the sum over all four devices. -/
theorem outAt_sum (c : Dev nD) (b : Fin 2) (i : Fin 256) (e : Fin 768) :
    (outAt m ρ c : FVec Ideal S2x256x768 .f32) (ix3 b i e)
      = ∑ d : Fin 4, mixed weighFirst (N := 512) (by decide) (xAt m ρ d) (wqAt m ρ d) (wkAt m ρ d) (wvAt m ρ d) (woAt m ρ d)
          b i e := by
  rw [outAt_apply m ρ c b i e ⟨256 * b.val + i.val, by omega⟩ rfl]
  simp only [part_apply m ρ _ b i e ⟨256 * b.val + i.val, by omega⟩ rfl]
  generalize hf : (fun d : Dev nD => mixed weighFirst (N := 512) (by decide) (xAt m ρ d) (wqAt m ρ d) (wkAt m ρ d)
    (wvAt m ρ d) (woAt m ρ d) b i e) = f
  have hf' : ∀ d, mixed weighFirst (N := 512) (by decide) (xAt m ρ d) (wqAt m ρ d) (wkAt m ρ d)
    (wvAt m ρ d) (woAt m ρ d) b i e = f d := fun d => congrFun hf d
  simp only [hf']
  have ring : ∀ (c : Fin 4), (back 0 c, back 1 c, back 2 c, back 3 c) = (c, c + 3, c + 2, c + 1) := by decide
  have hc := ring c
  simp only [Prod.mk.injEq] at hc
  rw [hc.1, hc.2.1, hc.2.2.1, hc.2.2.2, Fin.sum_univ_four]
  clear hc hf hf'
  match c with
  | 0 => show f 0 + f 3 + f 2 + f 1 = _; ac_rfl
  | 1 => show f 1 + f 0 + f 3 + f 2 = _; ac_rfl
  | 2 => show f 2 + f 1 + f 0 + f 3 = _; ac_rfl
  | 3 => show f 3 + f 2 + f 1 + f 0 = _; ac_rfl

end Cert.KernelIdeal.Value

end
-- ==== Proof.Value.Reference.lean ====
/- What the reference computes, at an index: all 2048 columns' sum, each row divided last.

   Its composed term is cut into stages, each read at an index by one lemma: the heads of a projection, the scores, their
   running maximum, the exponentials, the decay of an empty beginning, the two sums, the quotient. -/
module

public import proofs.«01_k».proof.Proof.Gen.ReferenceIdeal.Run
public import proofs.«01_k».proof.Proof.Value.Columns

@[expose] public section

set_option maxRecDepth 16384

noncomputable section

namespace Cert.ReferenceIdeal.Value

open Cert.ReferenceIdeal Cert.ReferenceIdeal.Gen Cert.Attention
open Idealize.ShloMosaic Idealize.SL.Sem

/-! ## The stages -/

/-- A projection, by heads. -/
def heads (x : FVec Ideal S2x256x768 .f32) (w : FVec Ideal S768x2048 .f32) : FVec Ideal S2x256x32x64 .f32 :=
  shapeCast _ (Host.dotGeneral dot_S2x256x768_S768x2048_S2x256x2048_2_0_01_1_n_n none x w) shapeCasts_S2x256x2048_S2x256x32x64

/-- The scaled scores of queries and keys. -/
def scores (q k : FVec Ideal S2x256x32x64 .f32) : FVec Ideal S2x32x256x256 .f32 :=
  mulf (Host.dotGeneral dot_S2x256x32x64_S2x256x32x64_S2x32x256x256_3_3_1_1_02_02 none q k)
    (broadcastInDim S2x32x256x256 ![] bcast_S_S2x32x256x256 (constant S_ .f32 0x3E000000#32))

/-- One number, −∞, for each row of scores. -/
def lows : FVec Ideal S2x32x256x1 .f32 := broadcastInDim S2x32x256x1 ![] bcast_S_S2x32x256x1 (constant S_ .f32 0xFF800000#32)

/-- The greatest score of each row. -/
def rowTops (s : FVec Ideal S2x32x256x256 .f32) : FVec Ideal S2x32x256 .f32 :=
  Host.reduce FloatOps.maximumf s (constant S_ .f32 0xFF800000#32) reducesTo_S2x32x256x256_S2x32x256_d3 h_S_

/-- One number for each row, as a column. -/
def column (t : FVec Ideal S2x32x256 .f32) : FVec Ideal S2x32x256x1 .f32 :=
  broadcastInDim S2x32x256x1 ![0, 1, 2] bcast_S2x32x256_S2x32x256x1_0_1_2 t

/-- The running maximum after the one step. -/
def tops (s : FVec Ideal S2x32x256x256 .f32) : FVec Ideal S2x32x256x1 .f32 := maximumf lows (column (rowTops s))

/-- The exponentials of the scores less that maximum. -/
def exps (s : FVec Ideal S2x32x256x256 .f32) : FVec Ideal S2x32x256x256 .f32 :=
  Host.exp (subf s (broadcastInDim S2x32x256x256 ![0, 1, 2, 3] bcast_S2x32x256x1_S2x32x256x256_0_1_2_3 (tops s)))

/-- The decay of what was there before the step. -/
def decay (s : FVec Ideal S2x32x256x256 .f32) : FVec Ideal S2x32x256x1 .f32 := Host.exp (subf lows (tops s))

/-- The sum of the exponentials, added to the decayed zero. -/
def totals (s : FVec Ideal S2x32x256x256 .f32) : FVec Ideal S2x32x256x1 .f32 :=
  addf (mulf (broadcastInDim S2x32x256x1 ![] bcast_S_S2x32x256x1 (constant S_ .f32 0x00000000#32)) (decay s))
    (broadcastInDim S2x32x256x1 ![0, 1, 2] bcast_S2x32x256_S2x32x256x1_0_1_2
      (Host.reduceAdd (exps s) (constant S_ .f32 0x00000000#32) reducesTo_S2x32x256x256_S2x32x256_d3 h_S_))

/-- The values weighed by the exponentials, added to the decayed zero. -/
def sums (s : FVec Ideal S2x32x256x256 .f32) (v : FVec Ideal S2x256x32x64 .f32) : FVec Ideal S2x256x32x64 .f32 :=
  addf (mulf (broadcastInDim S2x256x32x64 ![] bcast_S_S2x256x32x64 (constant S_ .f32 0x00000000#32))
      (broadcastInDim S2x256x32x64 ![0, 1, 2, 3] bcast_S2x256x32x1_S2x256x32x64_0_1_2_3
        (transpose S2x256x32x1 [0, 2, 1, 3] (decay s) transposes_S2x32x256x1_S2x256x32x1_0_2_1_3)))
    (transpose S2x256x32x64 [0, 3, 1, 2] (Host.dotGeneral dot_S2x256x32x64_S2x32x256x256_S2x32x64x256_1_3_3_2_02_01 none v (exps s))
      transposes_S2x32x64x256_S2x256x32x64_0_3_1_2)

/-- Their quotient: the attention result, by heads. -/
def attended (s : FVec Ideal S2x32x256x256 .f32) (v : FVec Ideal S2x256x32x64 .f32) : FVec Ideal S2x256x32x64 .f32 :=
  Host.divf (sums s v) (broadcastInDim S2x256x32x64 ![0, 1, 2, 3] bcast_S2x256x32x1_S2x256x32x64_0_1_2_3
    (transpose S2x256x32x1 [0, 2, 1, 3] (totals s) transposes_S2x32x256x1_S2x256x32x1_0_2_1_3))

/-- The heads side by side, times the output weight. -/
def joined (a : FVec Ideal S2x256x32x64 .f32) (wo : FVec Ideal S2048x768 .f32) : FVec Ideal S2x256x768 .f32 :=
  Host.dotGeneral dot_S2x256x2048_S2048x768_S2x256x768_2_0_01_1_n_n none (shapeCast _ a shapeCasts_S2x256x32x64_S2x256x2048) wo

/-! ## Each at an index -/

theorem heads_apply (x : FVec Ideal S2x256x768 .f32) (w : FVec Ideal S768x2048 .f32) (b : Fin 2) (i : Fin 256) (h : Fin 32)
    (d : Fin 64) : heads x w (ix4 b i h d) = proj x (fun k => w (ix2 k ⟨h.val * 64 + d.val, by omega⟩)) b i := by
  pointwise [heads]
  rfl

theorem scores_apply (q k : FVec Ideal S2x256x32x64 .f32) (b : Fin 2) (h : Fin 32) (i j : Fin 256) :
    scores q k (ix4 b h i j)
      = (∑ d : Fin 64, q (ix4 b i h d) * k (ix4 b j h d)) * Ideal.ofBits .f32 0x3E000000#32 := by
  pointwise [scores]

variable (s : FVec Ideal S2x32x256x256 .f32) (v : FVec Ideal S2x256x32x64 .f32) (b : Fin 2) (h : Fin 32) (i j : Fin 256)

/-- A maximum along the last of four axes, of whatever lengths, is the fold of `max` over that axis. -/
theorem lastMax_apply {n₀ n₁ n₂ n₃ : Nat} {u : Shape} (x : FVec Ideal ⟨4, ![n₀, n₁, n₂, n₃]⟩ .f32) (init : FVec Ideal u .f32)
    (hr : (⟨4, ![n₀, n₁, n₂, n₃]⟩ : Shape).ReducesTo [3] ⟨3, ![n₀, n₁, n₂]⟩) (hu : 0 < u.numel)
    (b : Fin n₀) (h : Fin n₁) (i : Fin n₂) :
    Host.reduce FloatOps.maximumf x init hr hu (ix3 b h i)
      = Finset.univ.fold max (init (Shape.Idx.first hu)) fun j => x (ix4 b h i j) :=
  (Host.reduce_eq_fold (max : EReal → EReal → EReal) x init hr hu _).trans (hr.fold_fiber_r4_a3 _ _ _ _)

theorem rowTops_apply : rowTops s (ix3 b h i) = top fun j => s (ix4 b h i j) :=
  lastMax_apply s _ reducesTo_S2x32x256x256_S2x32x256_d3 h_S_ b h i

theorem lows_apply : lows (ix4 b h i 0) = low := by
  pointwise [lows]

theorem column_apply (t : FVec Ideal S2x32x256 .f32) : column t (ix4 b h i 0) = t (ix3 b h i) := by
  pointwise [column]

/-- A maximum of two arrays, of whatever shape, at an index. -/
theorem maximumf_at {S : Shape} (x y : FVec Ideal S .f32) (j : S.Idx) : maximumf x y j = max (x j) (y j) := rfl

theorem tops_apply : tops s (ix4 b h i 0) = max low (top fun j => s (ix4 b h i j)) := by
  unfold tops
  rw [maximumf_at, lows_apply, column_apply, rowTops_apply]

theorem exps_apply : exps s (ix4 b h i j) = Ideal.exp (s (ix4 b h i j) - max low (top fun j => s (ix4 b h i j))) := by
  rw [← tops_apply]
  pointwise [exps]

theorem decay_apply : decay s (ix4 b h i 0) = Ideal.exp (low - max low (top fun j => s (ix4 b h i j))) := by
  rw [← tops_apply]
  pointwise [decay, lows]

theorem totals_apply : totals s (ix4 b h i 0)
    = 0 * decay s (ix4 b h i 0) + ∑ j : Fin 256, exps s (ix4 b h i j) := by
  pointwise [totals]

theorem sums_apply (d : Fin 64) : sums s v (ix4 b i h d)
    = 0 * decay s (ix4 b h i 0) + ∑ j : Fin 256, v (ix4 b j h d) * exps s (ix4 b h i j) := by
  pointwise [sums]

/-- An element of the attention result is its row, divided last. -/
theorem attended_apply (d : Fin 64) :
    attended s v (ix4 b i h d) = divideLast (fun j => s (ix4 b h i j)) (fun j => v (ix4 b j h d)) := by
  have e : attended s v (ix4 b i h d) = Ideal.div (sums s v (ix4 b i h d)) (totals s (ix4 b h i 0)) := by
    pointwise [attended]
  rw [e, sums_apply, totals_apply, decay_apply]
  simp only [exps_apply]
  rfl

theorem joined_apply (a : FVec Ideal S2x256x32x64 .f32) (wo : FVec Ideal S2048x768 .f32) (e : Fin 768) :
    joined a wo (ix3 b i e)
      = ∑ n : Fin 2048, a (ix4 b i ⟨n.val / 64, by omega⟩ ⟨n.val % 64, by omega⟩) * wo (ix2 n e) := by
  pointwise [joined]

/-! ## The whole -/

/-- The reference's result as a function of its five arrays. -/
def whole (x : FVec Ideal S2x256x768 .f32) (wq wk wv : FVec Ideal S768x2048 .f32) (wo : FVec Ideal S2048x768 .f32) :
    FVec Ideal S2x256x768 .f32 :=
  joined (attended (scores (heads x wq) (heads x wk)) (heads x wv)) wo

/-- At an index it is the sum over all columns. -/
theorem whole_apply (x : FVec Ideal S2x256x768 .f32) (wq wk wv : FVec Ideal S768x2048 .f32) (wo : FVec Ideal S2048x768 .f32)
    (e : Fin 768) : whole x wq wk wv wo (ix3 b i e) = mixed divideLast (N := 2048) (by decide) x wq wk wv wo b i e := by
  unfold whole mixed
  rw [joined_apply]
  refine Finset.sum_congr rfl fun n _ => congrArg (· * _) ?_
  rw [attended_apply]
  unfold Attention.cell
  congr 1
  · funext j
    rw [scores_apply]
    simp only [heads_apply]
    rfl
  · funext j
    rw [heads_apply]
    have hn : ∀ h, (⟨n.val / 64 * 64 + n.val % 64, h⟩ : Fin 2048) = n := fun _ =>
      Fin.ext (by show n.val / 64 * 64 + n.val % 64 = n.val; omega)
    simp only [hn]

/-- The reference's composed term is that function of its arguments. -/
theorem res_eq (m : (ℓ : Loc nD τ sig) → Buf (Elt Ideal) ℓ) (c : Dev nD) :
    res_main_v34 m c = whole (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) := by
  unfold res_main_v34 whole joined attended sums totals decay exps tops column rowTops lows scores heads
  rfl

end Cert.ReferenceIdeal.Value

end
-- ==== Proof.Value.Equation.lean ====
/- The equation: from blocks of the reference's arrays, with `x`, `Wq` and `Wk` finite, every device's result is the
   reference's. -/
module

public import proofs.«01_k».proof.Proof.Value.Arrays
public import proofs.«01_k».proof.Proof.Value.Blocks
public import proofs.«01_k».proof.Proof.Value.Kernel
public import proofs.«01_k».proof.Proof.Value.Reference

@[expose] public section

noncomputable section

namespace Cert.KernelIdeal.Value

open Cert.KernelIdeal Cert.KernelIdeal.Run Cert.Attention
open Idealize.ShloMosaic Idealize.ShloMosaic.TcCoe Idealize.SL.Sem

/-- Each device holds all of `x` and its blocks of the four weights. -/
def Dealt (m : (ℓ : Loc nD τ sig) → Buf (Elt Ideal) ℓ) (x : FVec Ideal ⟨3, ![2, 256, 768]⟩ .f32)
    (wq wk wv : FVec Ideal ⟨2, ![768, 2048]⟩ .f32) (wo : FVec Ideal ⟨2, ![2048, 768]⟩ .f32) : Prop :=
  ∀ c : Dev nD, m ((c : Thread nD τ).loc main_arg0) = x
    ∧ m ((c : Thread nD τ).loc main_arg1) = colBlock c wq
    ∧ m ((c : Thread nD τ).loc main_arg2) = colBlock c wk
    ∧ m ((c : Thread nD τ).loc main_arg3) = colBlock c wv
    ∧ m ((c : Thread nD τ).loc main_arg4) = rowBlock c wo

/-- Then every element of every device's result is the reference's, -/
theorem outAt_ix {m : (ℓ : Loc nD τ sig) → Buf (Elt Ideal) ℓ} (ρ : Dev nD → PrngReg)
    {x : FVec Ideal ⟨3, ![2, 256, 768]⟩ .f32} {wq wk wv : FVec Ideal ⟨2, ![768, 2048]⟩ .f32}
    {wo : FVec Ideal ⟨2, ![2048, 768]⟩ .f32} (hm : Dealt m x wq wk wv wo)
    (hx : ∀ i, Finite (x i)) (hq : ∀ i, Finite (wq i)) (hk : ∀ i, Finite (wk i)) (c : Dev nD) (b : Fin 2) (i : Fin 256)
    (e : Fin 768) : (outAt m ρ c : FVec Ideal ⟨3, ![2, 256, 768]⟩ .f32) (ix3 b i e)
      = Cert.ReferenceIdeal.Value.whole x wq wk wv wo (ix3 b i e) := by
  have hd : ∀ d : Fin 4, mixed weighFirst (N := 512) (by decide) (xAt m ρ d) (wqAt m ρ d) (wkAt m ρ d) (wvAt m ρ d)
      (woAt m ρ d) b i e
      = mixed weighFirst (N := 512) (by decide) x (colBlock d wq) (colBlock d wk) (colBlock d wv) (rowBlock d wo) b i e :=
    fun d => by
      rw [xAt_eq, wqAt_eq, wkAt_eq, wvAt_eq, woAt_eq, (hm d).1, (hm d).2.1, (hm d).2.2.1, (hm d).2.2.2.1, (hm d).2.2.2.2]
  have hs := sum_mixed_blocks weighFirst x wq wk wv wo b i e
  rw [← mixed_eq _ wv wo hx hq hk, ← Cert.ReferenceIdeal.Value.whole_apply] at hs
  have ho := outAt_sum m ρ c b i e
  simp only [hd] at ho
  exact ho.trans hs

/-- and so the whole array. -/
theorem outAt_eq {m : (ℓ : Loc nD τ sig) → Buf (Elt Ideal) ℓ} (ρ : Dev nD → PrngReg)
    {x : FVec Ideal ⟨3, ![2, 256, 768]⟩ .f32} {wq wk wv : FVec Ideal ⟨2, ![768, 2048]⟩ .f32}
    {wo : FVec Ideal ⟨2, ![2048, 768]⟩ .f32} (hm : Dealt m x wq wk wv wo)
    (hx : ∀ i, Finite (x i)) (hq : ∀ i, Finite (wq i)) (hk : ∀ i, Finite (wk i)) (c : Dev nD) :
    (outAt m ρ c : FVec Ideal ⟨3, ![2, 256, 768]⟩ .f32) = Cert.ReferenceIdeal.Value.whole x wq wk wv wo :=
  funext fun j => by
    rw [eq_ix3 j]
    exact outAt_ix ρ hm hx hq hk c (j 0) (j 1) (j 2)

end Cert.KernelIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Value.Inputs
public import proofs.«01_k».proof.Proof.Value.Equation
public import Idealize.ShloMosaic.Adequacy
public import Idealize.ShloMosaic.Init

@[expose] public section

noncomputable section

namespace Cert.Proof

open Idealize.ShloMosaic Idealize.SL.Sem Cert.Kernel

/-- The kernel runs, its arguments are kept, its counters are zero at the end. -/
theorem frame_kernel : Cert.quiescent_Kernel := fun m ρ _ => Cert.Kernel.Run.run_frame m ρ

/-- So over the ideal values, -/
theorem frame_ideal : Cert.quiescent_KernelIdeal := fun m ρ _ => Cert.KernelIdeal.Run.run_frame m ρ

/-- and so the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The side conditions of the precondition, at one device's shapes -/
theorem pre_facts : Cert.Pre_scores_finite_KernelIdeal.Facts := ⟨by decide, by decide⟩

/-- and at the reference's. -/
theorem pre_facts_reference : Cert.Pre_scores_finite_ReferenceIdeal.Facts := ⟨by decide, by decide⟩

/-- Where the precondition holds, each device's `x` and its blocks of `Wq` and `Wk` are finite. -/
theorem finite_of_pre {m : (ℓ : Loc Cert.KernelIdeal.nD Cert.KernelIdeal.τ Cert.KernelIdeal.sig) → Buf (Elt Ideal) ℓ}
    (h : Cert.Pre_KernelIdeal_scores_finite_KernelIdeal (hPre_scores_finite_KernelIdeal := pre_facts) m)
    (c : Dev Cert.KernelIdeal.nD) :
    (∀ i, Attention.Finite (m ((c.tc : Thread Cert.KernelIdeal.nD Cert.KernelIdeal.τ).loc Cert.KernelIdeal.main_arg0) i))
      ∧ (∀ i, Attention.Finite (m ((c.tc : Thread Cert.KernelIdeal.nD Cert.KernelIdeal.τ).loc Cert.KernelIdeal.main_arg1) i))
      ∧ (∀ i, Attention.Finite (m ((c.tc : Thread Cert.KernelIdeal.nD Cert.KernelIdeal.τ).loc Cert.KernelIdeal.main_arg2) i)) :=
  ⟨Attention.finite_of_compare _ _ (h c).1, Attention.finite_of_compare _ _ (h c).2.1, Attention.finite_of_compare _ _ (h c).2.2⟩

/-- On finite `x`, `Wq` and `Wk` the kernel, over the ideal values, computes on every device what the reference computes. -/
theorem algebraic : Cert.algebraic_KernelIdeal_ReferenceIdeal_pre_scores_finite_KernelIdeal
    (hPre_scores_finite_KernelIdeal := pre_facts) := by
  intro m g m' g' hpre hm
  have hx := (finite_of_pre hpre 0).1
  have hq := Attention.finite_of_blocks fun c i => (hm c).2.1 ▸ (finite_of_pre hpre c).2.1 i
  have hk := Attention.finite_of_blocks fun c i => (hm c).2.2.1 ▸ (finite_of_pre hpre c).2.2 i
  rw [(hm 0).1] at hx
  refine ⟨_, (θ_run Cert.KernelIdeal.defs _ _).mono (fun r h c => ⟨(h.1 c (5 : Fin 6)).trans
      ((Cert.KernelIdeal.Run.result_eq m g c).trans (Cert.KernelIdeal.Value.outAt_eq g hm hx hq hk c)),
      Cert.KernelIdeal.Run.args_kept m g h.1 c⟩) (Cert.KernelIdeal.Run.run_main m g), ?_⟩
  exact (θ_run Cert.ReferenceIdeal.defs _ _).mono (fun r h => ⟨(h 0).1.trans (Cert.ReferenceIdeal.Value.res_eq m' 0), (h 0).2⟩)
    (Cert.ReferenceIdeal.Value.run m' g')

/-- All of it, with the programs' and the precondition's side conditions. -/
theorem claim : Cert.Claim := ⟨Cert.Kernel.Gen.facts, Cert.KernelIdeal.Gen.facts, Cert.ReferenceIdeal.Gen.facts, pre_facts,
  pre_facts_reference, frame_kernel, frame_ideal, fun m ρ _ => Cert.KernelIdeal.Run.run_frame m ρ, frame_reference,
  fun m ρ _ => frame_reference m ρ trivial, trivial, algebraic⟩

end Cert.Proof

end
